-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x128x128 : Shape := ⟨3, ![2048, 128, 128]⟩
abbrev S2048x128 : Shape := ⟨2, ![2048, 128]⟩
abbrev S9 : Shape := ⟨1, ![9]⟩
abbrev S_ : Shape := ⟨0, ![]⟩

class Facts : Prop where
  bcast_S_S2048x128x128 : S_.BroadcastsInDim S2048x128x128 (![] : Fin 0 → Fin S2048x128x128.rank)
  reducesTo_S2048x128x128_S_d0_1_2 : S2048x128x128.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S9 : S_.BroadcastsInDim S9 (![] : Fin 0 → Fin S9.rank)
  reducesTo_S9_S_d0 : S9.ReducesTo [0] S_

variable [Facts]

def fn {F : FTy → Type} [FloatOps F] (main_arg0 : FVec F S2048x128x128 .f32) (main_arg1 : FVec F S2048x128 .f32) (main_arg2 : IVec S9 32) (main_arg3 : IVec S_ 32) : IVec S_ 1 :=
  let main_v0 : FVec F S2048x128x128 .f32 := Host.absf main_arg0
  let main_cst : FVec F S_ .f32 := constant S_ .f32 0x7F800000#32
  let main_v1 : FVec F S2048x128x128 .f32 := broadcastInDim S2048x128x128 ![] bcast_S_S2048x128x128 main_cst
  let main_v2 : IVec S2048x128x128 1 := cmpf .olt main_v0 main_v1
  let main_c : IVec S_ 1 := constantI S_ 1 1#1
  let main_v3 : IVec S_ 1 := (fun x v => Host.reduce IntOp.andi x v reducesTo_S2048x128x128_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_c_2 : IVec S_ 32 := constantI S_ 32 0#32
  let main_v8 : IVec S9 32 := broadcastInDim S9 ![] bcast_S_S9 main_c_2
  let main_v9 : IVec S9 1 := cmpi .sge main_arg2 main_v8
  let main_c_3 : IVec S_ 32 := constantI S_ 32 2048#32
  let main_v10 : IVec S9 32 := broadcastInDim S9 ![] bcast_S_S9 main_c_3
  let main_v11 : IVec S9 1 := cmpi .slt main_arg2 main_v10
  let main_v12 : IVec S9 1 := andi main_v9 main_v11
  let main_c_4 : IVec S_ 1 := constantI S_ 1 1#1
  let main_v13 : IVec S_ 1 := (fun x v => Host.reduce IntOp.andi x v reducesTo_S9_S_d0 h_S_) main_v12 main_c_4
  let main_v14 : IVec S_ 1 := andi main_v3 main_v7
  let main_v15 : IVec S_ 1 := andi main_v13 main_v14
  main_v15
-- ==== Pre_in_range.lean ====
abbrev S2048x128x128 : Shape := ⟨3, ![2048, 128, 128]⟩
abbrev S2048x128 : Shape := ⟨2, ![2048, 128]⟩
abbrev S9 : Shape := ⟨1, ![9]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel

variable [Facts]

def fn {F : FTy → Type} [FloatOps F] (main_arg0 : FVec F S2048x128x128 .f32) (main_arg1 : FVec F S2048x128 .f32) (main_arg2 : IVec S9 32) (main_arg3 : IVec S_ 32) : IVec S_ 1 :=
  let main_c : IVec S_ 32 := constantI S_ 32 0#32
  let main_v0 : IVec S9 32 := broadcastInDim S9 ![] bcast_S_S9 main_c
  let main_v1 : IVec S9 1 := cmpi .sge main_arg2 main_v0
  let main_c_0 : IVec S_ 32 := constantI S_ 32 2048#32
  let main_v2 : IVec S9 32 := broadcastInDim S9 ![] bcast_S_S9 main_c_0
  let main_v3 : IVec S9 1 := cmpi .slt main_arg2 main_v2
  let main_v4 : IVec S9 1 := andi main_v1 main_v3
  let main_c_1 : IVec S_ 1 := constantI S_ 1 1#1
  let main_v5 : IVec S_ 1 := (fun x v => Host.reduce IntOp.andi x v reducesTo_S9_S_d0 h_S_) main_v4 main_c_1
  main_v5
-- ==== Kernel.lean ====
abbrev S2048x128x128 : Shape := ⟨3, ![2048, 128, 128]⟩
abbrev S2048x128 : Shape := ⟨2, ![2048, 128]⟩
abbrev S9 : Shape := ⟨1, ![9]⟩
abbrev S_ : Shape := ⟨0, ![]⟩
abbrev S2048x8x128 : Shape := ⟨3, ![2048, 8, 128]⟩
abbrev S8x8x128 : Shape := ⟨3, ![8, 8, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1 : Shape := ⟨1, ![1]⟩

abbrev nBuf : Space → Nat
  | .hbm => 6
  | .vmem => 7
  | .smem => 1
  | _ => 0

abbrev bufTy : (tb : Table) → Fin (tcTables nBuf tb) → BufTy
  | .hbm, ⟨0, _⟩ => ⟨S2048x128x128, .f32⟩
  | .hbm, ⟨1, _⟩ => ⟨S2048x128, .f32⟩
  | .hbm, ⟨2, _⟩ => ⟨S_, .i32⟩
  | .hbm, ⟨3, _⟩ => ⟨S2048x128x128, .f32⟩
  | .hbm, ⟨4, _⟩ => ⟨S2048x128, .f32⟩
  | .hbm, ⟨5, _⟩ => ⟨S2048x128, .i32⟩
  | .local _ .vmem, ⟨0, _⟩ => ⟨S2048x8x128, .f32⟩
  | .local _ .vmem, ⟨1, _⟩ => ⟨S2048x8x128, .f32⟩
  | .local _ .vmem, ⟨2, _⟩ => ⟨S2048x8x128, .f32⟩
  | .local _ .vmem, ⟨3, _⟩ => ⟨S2048x8x128, .f32⟩
  | .local _ .vmem, ⟨4, _⟩ => ⟨S2048x128, .f32⟩
  | .local _ .vmem, ⟨5, _⟩ => ⟨S2048x128, .f32⟩
  | .local _ .vmem, ⟨6, _⟩ => ⟨S2048x128, .i32⟩
  | .local _ .smem, ⟨0, _⟩ => ⟨S9, .i32⟩
  | _, _ => ⟨S2048x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let c8_i32 : BitVec 32 := 8#32
  let v67 : BitVec 32 := Scalar.muli arg3 c8_i32
  let v68 : Index := Scalar.indexCast v67
  let c0_33 : Index := 0#32
  let c0_34 : Index := 0#32
  ![v68.toNat, 0, 0]
@[reducible] def k0_t2_loop : Scf.Loop 32 :=
  let c0_i32_7 : BitVec 32 := 0#32
  let c256_i32_8 : BitVec 32 := 256#32
  let v20 : BitVec 32 := Scalar.addi c0_i32_7 c256_i32_8
  let c1_i32_9 : BitVec 32 := 1#32
  ⟨c0_i32_7, v20, c1_i32_9⟩
def k0_off2 (k0_t2 : Fin k0_t2_loop.trips) : Fin 3 → Nat :=
  let c0_i32_7 : BitVec 32 := 0#32
  let c1_i32_9 : BitVec 32 := 1#32
  let arg3 : BitVec 32 := Scf.iv c0_i32_7 c1_i32_9 k0_t2
  let c8_i32 : BitVec 32 := 8#32
  let v67 : BitVec 32 := Scalar.muli arg3 c8_i32
  let v68 : Index := Scalar.indexCast v67
  let c0_33 : Index := 0#32
  let c0_34 : Index := 0#32
  ![v68.toNat, 0, 0]
@[reducible] def k0_t3_loop : Scf.Loop 32 :=
  let c0_i32_17 : BitVec 32 := 0#32
  let c256_i32_18 : BitVec 32 := 256#32
  let v41 : BitVec 32 := Scalar.addi c0_i32_17 c256_i32_18
  let c1_i32_19 : BitVec 32 := 1#32
  ⟨c0_i32_17, v41, c1_i32_19⟩
def k0_off3 (k0_t3 : Fin k0_t3_loop.trips) : Fin 3 → Nat :=
  let c0_i32_17 : BitVec 32 := 0#32
  let c1_i32_19 : BitVec 32 := 1#32
  let arg3 : BitVec 32 := Scf.iv c0_i32_17 c1_i32_19 k0_t3
  let c8_i32 : BitVec 32 := 8#32
  let v67 : BitVec 32 := Scalar.muli arg3 c8_i32
  let v68 : Index := Scalar.indexCast v67
  let c0_33 : Index := 0#32
  let c0_34 : Index := 0#32
  ![v68.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k1_off1 (v23 : BitVec 32) : Fin 2 → Nat :=
  let v24 : Index := Scalar.indexCast v23
  let c0_9 : Index := 0#32
  ![v24.toNat, 0]

def k1_chk1 (v23 : BitVec 32) : Prop :=
  (∀ a, (k1_off1 v23) a + S1x128.size a ≤ S2048x128.size a)
theorem k1_off1_inb : ∀ (v23 : BitVec 32) (k1_hw1 : k1_chk1 v23), ∀ a, (k1_off1 v23) a + S1x128.size a ≤ S2048x128.size a := fun v23 k1_hw1 => k1_hw1

def k1_off2 (v30 : BitVec 32) : Fin 2 → Nat :=
  let v31 : Index := Scalar.indexCast v30
  let c0_10 : Index := 0#32
  ![v31.toNat, 0]

def k1_chk2 (v30 : BitVec 32) : Prop :=
  (∀ a, (k1_off2 v30) a + S1x128.size a ≤ S2048x128.size a)
theorem k1_off2_inb : ∀ (v30 : BitVec 32) (k1_hw2 : k1_chk2 v30), ∀ a, (k1_off2 v30) a + S1x128.size a ≤ S2048x128.size a := fun v30 k1_hw2 => k1_hw2

def k1_off3 (v37 : BitVec 32) : Fin 2 → Nat :=
  let v38 : Index := Scalar.indexCast v37
  let c0_11 : Index := 0#32
  ![v38.toNat, 0]

def k1_chk3 (v37 : BitVec 32) : Prop :=
  (∀ a, (k1_off3 v37) a + S1x128.size a ≤ S2048x128.size a)
theorem k1_off3_inb : ∀ (v37 : BitVec 32) (k1_hw3 : k1_chk3 v37), ∀ a, (k1_off3 v37) a + S1x128.size a ≤ S2048x128.size a := fun v37 k1_hw3 => k1_hw3

def k1_off4 (v44 : BitVec 32) : Fin 2 → Nat :=
  let v45 : Index := Scalar.indexCast v44
  let c0_12 : Index := 0#32
  ![v45.toNat, 0]

def k1_chk4 (v44 : BitVec 32) : Prop :=
  (∀ a, (k1_off4 v44) a + S1x128.size a ≤ S2048x128.size a)
theorem k1_off4_inb : ∀ (v44 : BitVec 32) (k1_hw4 : k1_chk4 v44), ∀ a, (k1_off4 v44) a + S1x128.size a ≤ S2048x128.size a := fun v44 k1_hw4 => k1_hw4

def k1_off5 (v51 : BitVec 32) : Fin 2 → Nat :=
  let v52 : Index := Scalar.indexCast v51
  let c0_13 : Index := 0#32
  ![v52.toNat, 0]

def k1_chk5 (v51 : BitVec 32) : Prop :=
  (∀ a, (k1_off5 v51) a + S1x128.size a ≤ S2048x128.size a)
theorem k1_off5_inb : ∀ (v51 : BitVec 32) (k1_hw5 : k1_chk5 v51), ∀ a, (k1_off5 v51) a + S1x128.size a ≤ S2048x128.size a := fun v51 k1_hw5 => k1_hw5

def k1_off6 (v58 : BitVec 32) : Fin 2 → Nat :=
  let v59 : Index := Scalar.indexCast v58
  let c0_14 : Index := 0#32
  ![v59.toNat, 0]

def k1_chk6 (v58 : BitVec 32) : Prop :=
  (∀ a, (k1_off6 v58) a + S1x128.size a ≤ S2048x128.size a)
theorem k1_off6_inb : ∀ (v58 : BitVec 32) (k1_hw6 : k1_chk6 v58), ∀ a, (k1_off6 v58) a + S1x128.size a ≤ S2048x128.size a := fun v58 k1_hw6 => k1_hw6

def k1_off7 (v65 : BitVec 32) : Fin 2 → Nat :=
  let v66 : Index := Scalar.indexCast v65
  let c0_15 : Index := 0#32
  ![v66.toNat, 0]

def k1_chk7 (v65 : BitVec 32) : Prop :=
  (∀ a, (k1_off7 v65) a + S1x128.size a ≤ S2048x128.size a)
theorem k1_off7_inb : ∀ (v65 : BitVec 32) (k1_hw7 : k1_chk7 v65), ∀ a, (k1_off7 v65) a + S1x128.size a ≤ S2048x128.size a := fun v65 k1_hw7 => k1_hw7

def k1_off8 (v72 : BitVec 32) : Fin 2 → Nat :=
  let v73 : Index := Scalar.indexCast v72
  let c0_16 : Index := 0#32
  ![v73.toNat, 0]

def k1_chk8 (v72 : BitVec 32) : Prop :=
  (∀ a, (k1_off8 v72) a + S1x128.size a ≤ S2048x128.size a)
theorem k1_off8_inb : ∀ (v72 : BitVec 32) (k1_hw8 : k1_chk8 v72), ∀ a, (k1_off8 v72) a + S1x128.size a ≤ S2048x128.size a := fun v72 k1_hw8 => k1_hw8

def k1_off9 (v79 : BitVec 32) : Fin 2 → Nat :=
  let v80 : Index := Scalar.indexCast v79
  let c0_17 : Index := 0#32
  ![v80.toNat, 0]

def k1_chk9 (v79 : BitVec 32) : Prop :=
  (∀ a, (k1_off9 v79) a + S1x128.size a ≤ S2048x128.size a)
theorem k1_off9_inb : ∀ (v79 : BitVec 32) (k1_hw9 : k1_chk9 v79), ∀ a, (k1_off9 v79) a + S1x128.size a ≤ S2048x128.size a := fun v79 k1_hw9 => k1_hw9

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S2048x128x128 : Shape := ⟨3, ![2048, 128, 128]⟩
abbrev S2048x128 : Shape := ⟨2, ![2048, 128]⟩
abbrev S9 : Shape := ⟨1, ![9]⟩
abbrev S_ : Shape := ⟨0, ![]⟩
abbrev S9x1 : Shape := ⟨2, ![9, 1]⟩
abbrev S9x128 : Shape := ⟨2, ![9, 128]⟩
abbrev S1x2048x128 : Shape := ⟨3, ![1, 2048, 128]⟩
abbrev S9x1x128 : Shape := ⟨3, ![9, 1, 128]⟩
abbrev S9x2048x128 : Shape := ⟨3, ![9, 2048, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩

abbrev nBuf : Space → Nat
  | .hbm => 231
  | .vmem => 0
  | .smem => 0
  | _ => 0

abbrev hbmTy0_0 (i : Nat) : BufTy := match i % 128 with
  | 0 => ⟨S2048x128x128, .f32⟩
  | 1 => ⟨S2048x128, .f32⟩
  | 2 => ⟨S9, .i32⟩
  | 3 => ⟨S_, .i32⟩
  | 4 => ⟨S_, .i32⟩
  | 5 => ⟨S9, .i32⟩
  | 6 => ⟨S9, .i1⟩
  | 7 => ⟨S_, .i32⟩
  | 8 => ⟨S9, .i32⟩
  | 9 => ⟨S9, .i32⟩
  | 10 => ⟨S9, .i32⟩
  | 11 => ⟨S9x1, .i32⟩
  | 12 => ⟨S9x128, .f32⟩
  | 13 => ⟨S1x2048x128, .f32⟩
  | 14 => ⟨S9x1x128, .f32⟩
  | 15 => ⟨S9x2048x128, .f32⟩
  | 16 => ⟨S9x2048x128, .f32⟩
  | 17 => ⟨S9x2048x128, .i1⟩
  | 18 => ⟨S9x2048x128, .i32⟩
  | 19 => ⟨S_, .i32⟩
  | 20 => ⟨S2048x128, .i32⟩
  | 21 => ⟨S2048x128x128, .i1⟩
  | 22 => ⟨S2048x128x128, .i1⟩
  | 23 => ⟨S_, .f32⟩
  | 24 => ⟨S_, .f32⟩
  | 25 => ⟨S2048x128x128, .f32⟩
  | 26 => ⟨S2048x128x128, .f32⟩
  | 27 => ⟨S_, .f32⟩
  | 28 => ⟨S128x128, .f32⟩
  | 29 => ⟨S2048x128x128, .i32⟩
  | 30 => ⟨S_, .i32⟩
  | 31 => ⟨S128x128, .i32⟩
  | 32 => ⟨S_, .i32⟩
  | 33 => ⟨S128x128, .i32⟩
  | 34 => ⟨S128x128, .i32⟩
  | 35 => ⟨S128x128, .f32⟩
  | 36 => ⟨S128x128, .f32⟩
  | 37 => ⟨S_, .f32⟩
  | 38 => ⟨S_, .f32⟩
  | 39 => ⟨S2048x128x128, .f32⟩
  | 40 => ⟨S2048x128x128, .f32⟩
  | 41 => ⟨S_, .f32⟩
  | 42 => ⟨S128x128, .f32⟩
  | 43 => ⟨S2048x128x128, .i32⟩
  | 44 => ⟨S_, .i32⟩
  | 45 => ⟨S128x128, .i32⟩
  | 46 => ⟨S_, .i32⟩
  | 47 => ⟨S128x128, .i32⟩
  | 48 => ⟨S128x128, .i32⟩
  | 49 => ⟨S128x128, .f32⟩
  | 50 => ⟨S128x128, .f32⟩
  | 51 => ⟨S1x128x128, .f32⟩
  | 52 => ⟨S2048x128x128, .f32⟩
  | 53 => ⟨S2048x128x128, .f32⟩
  | 54 => ⟨S_, .f32⟩
  | 55 => ⟨S_, .f32⟩
  | 56 => ⟨S2048x128x128, .f32⟩
  | 57 => ⟨S2048x128x128, .f32⟩
  | 58 => ⟨S2048x128x128, .i32⟩
  | 59 => ⟨S_, .i32⟩
  | 60 => ⟨S128x128, .i32⟩
  | 61 => ⟨S2048x128x128, .f32⟩
  | 62 => ⟨S_, .f32⟩
  | 63 => ⟨S128x128, .f32⟩
  | 64 => ⟨S_, .i32⟩
  | 65 => ⟨S128x128, .i32⟩
  | 66 => ⟨S128x128, .i32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S128x128, .f32⟩
  | 74 => ⟨S128x128, .f32⟩
  | 75 => ⟨S1x128x128, .f32⟩
  | 76 => ⟨S2048x128x128, .f32⟩
  | 77 => ⟨S2048x128x128, .i1⟩
  | 78 => ⟨S1x128x128, .f32⟩
  | 79 => ⟨S2048x128x128, .f32⟩
  | 80 => ⟨S2048x128x128, .i1⟩
  | 81 => ⟨S2048x128x128, .i1⟩
  | 82 => ⟨S2048x128x128, .i1⟩
  | 83 => ⟨S2048x128x128, .i1⟩
  | 84 => ⟨S_, .f32⟩
  | 85 => ⟨S_, .f32⟩
  | 86 => ⟨S2048x128x128, .f32⟩
  | 87 => ⟨S2048x128x128, .f32⟩
  | 88 => ⟨S_, .f32⟩
  | 89 => ⟨S128x128, .f32⟩
  | 90 => ⟨S2048x128x128, .i32⟩
  | 91 => ⟨S_, .i32⟩
  | 92 => ⟨S128x128, .i32⟩
  | 93 => ⟨S_, .i32⟩
  | 94 => ⟨S128x128, .i32⟩
  | 95 => ⟨S128x128, .i32⟩
  | 96 => ⟨S128x128, .f32⟩
  | 97 => ⟨S128x128, .f32⟩
  | 98 => ⟨S_, .f32⟩
  | 99 => ⟨S_, .f32⟩
  | 100 => ⟨S2048x128x128, .f32⟩
  | 101 => ⟨S2048x128x128, .f32⟩
  | 102 => ⟨S_, .f32⟩
  | 103 => ⟨S128x128, .f32⟩
  | 104 => ⟨S2048x128x128, .i32⟩
  | 105 => ⟨S_, .i32⟩
  | 106 => ⟨S128x128, .i32⟩
  | 107 => ⟨S_, .i32⟩
  | 108 => ⟨S128x128, .i32⟩
  | 109 => ⟨S128x128, .i32⟩
  | 110 => ⟨S128x128, .f32⟩
  | 111 => ⟨S128x128, .f32⟩
  | 112 => ⟨S1x128x128, .f32⟩
  | 113 => ⟨S2048x128x128, .f32⟩
  | 114 => ⟨S2048x128x128, .f32⟩
  | 115 => ⟨S_, .f32⟩
  | 116 => ⟨S_, .f32⟩
  | 117 => ⟨S2048x128x128, .f32⟩
  | 118 => ⟨S2048x128x128, .f32⟩
  | 119 => ⟨S2048x128x128, .i32⟩
  | 120 => ⟨S_, .i32⟩
  | 121 => ⟨S128x128, .i32⟩
  | 122 => ⟨S2048x128x128, .f32⟩
  | 123 => ⟨S_, .f32⟩
  | 124 => ⟨S128x128, .f32⟩
  | 125 => ⟨S_, .i32⟩
  | 126 => ⟨S128x128, .i32⟩
  | 127 => ⟨S128x128, .i32⟩
  | _ => ⟨S2048x128x128, .f32⟩

abbrev hbmTy0_1 (i : Nat) : BufTy := match i % 128 with
  | 0 => ⟨S128x128, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S128x128, .f32⟩
  | 7 => ⟨S128x128, .f32⟩
  | 8 => ⟨S2048x128x128, .f32⟩
  | 9 => ⟨S_, .f32⟩
  | 10 => ⟨S2048x128x128, .f32⟩
  | 11 => ⟨S2048x128x128, .f32⟩
  | 12 => ⟨S2048x128x128, .f32⟩
  | 13 => ⟨S2048x128x128, .f32⟩
  | 14 => ⟨S1x128x128, .f32⟩
  | 15 => ⟨S2048x128x128, .f32⟩
  | 16 => ⟨S2048x128x128, .f32⟩
  | 17 => ⟨S2048x128x128, .f32⟩
  | 18 => ⟨S2048x128x128, .f32⟩
  | 19 => ⟨S_, .f32⟩
  | 20 => ⟨S2048x128x128, .f32⟩
  | 21 => ⟨S2048x128x128, .f32⟩
  | 22 => ⟨S2048x128x128, .f32⟩
  | 23 => ⟨S1x128x128, .f32⟩
  | 24 => ⟨S2048x128x128, .f32⟩
  | 25 => ⟨S2048x128x128, .f32⟩
  | 26 => ⟨S2048x128x128, .f32⟩
  | 27 => ⟨S_, .f32⟩
  | 28 => ⟨S128x128, .f32⟩
  | 29 => ⟨S1x128x128, .f32⟩
  | 30 => ⟨S_, .f32⟩
  | 31 => ⟨S1x128x128, .f32⟩
  | 32 => ⟨S1x128x128, .f32⟩
  | 33 => ⟨S_, .i32⟩
  | 34 => ⟨S_, .f32⟩
  | 35 => ⟨S128x128, .f32⟩
  | 36 => ⟨S1x128x128, .f32⟩
  | 37 => ⟨S_, .f32⟩
  | 38 => ⟨S1x128x128, .f32⟩
  | 39 => ⟨S1x128x128, .f32⟩
  | 40 => ⟨S2048x128x128, .f32⟩
  | 41 => ⟨S2048x128x128, .f32⟩
  | 42 => ⟨S2048x128x128, .f32⟩
  | 43 => ⟨S_, .f32⟩
  | 44 => ⟨S_, .f32⟩
  | 45 => ⟨S_, .f32⟩
  | 46 => ⟨S_, .f32⟩
  | 47 => ⟨S128x128, .f32⟩
  | 48 => ⟨S1x128x128, .f32⟩
  | 49 => ⟨S1x128x128, .f32⟩
  | 50 => ⟨S1x128x128, .f32⟩
  | 51 => ⟨S_, .f32⟩
  | 52 => ⟨S_, .i1⟩
  | 53 => ⟨S_, .f32⟩
  | 54 => ⟨S_, .f32⟩
  | 55 => ⟨S1x128x128, .f32⟩
  | 56 => ⟨S1x128x128, .f32⟩
  | 57 => ⟨S1x128x128, .f32⟩
  | 58 => ⟨S_, .f32⟩
  | 59 => ⟨S1x128x128, .f32⟩
  | 60 => ⟨S1x128x128, .f32⟩
  | 61 => ⟨S2048x128x128, .f32⟩
  | 62 => ⟨S2048x128x128, .f32⟩
  | 63 => ⟨S2048x128x128, .f32⟩
  | 64 => ⟨S2048x128x128, .f32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S2048x128, .f32⟩
  | 79 => ⟨S2048x128, .f32⟩
  | 80 => ⟨S2048x128, .f32⟩
  | 81 => ⟨S_, .f32⟩
  | 82 => ⟨S_, .f32⟩
  | 83 => ⟨S_, .f32⟩
  | 84 => ⟨S_, .f32⟩
  | 85 => ⟨S128, .f32⟩
  | 86 => ⟨S1x128, .f32⟩
  | 87 => ⟨S1x128, .f32⟩
  | 88 => ⟨S1x128, .f32⟩
  | 89 => ⟨S_, .f32⟩
  | 90 => ⟨S_, .i1⟩
  | 91 => ⟨S_, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S2048x128, .f32⟩
  | 100 => ⟨S2048x128, .f32⟩
  | 101 => ⟨S2048x128, .f32⟩
  | 102 => ⟨S2048x128, .f32⟩
  | _ => ⟨S2048x128x128, .f32⟩

abbrev hbmTy (i : Nat) : BufTy := match i / 128 with
  | 0 => hbmTy0_0 i
  | 1 => hbmTy0_1 i
  | _ => ⟨S2048x128x128, .f32⟩

abbrev bufTy : (tb : Table) → Fin (tcTables nBuf tb) → BufTy
  | .hbm, ⟨i, _⟩ => hbmTy i
  | _, _ => ⟨S2048x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call3_v0 : Ref sig .tc := ⟨.hbm, 85, rfl⟩
abbrev main_call3_v1 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_18 : Ref sig .tc := ⟨.hbm, 98, rfl⟩
abbrev main_call4_v0 : Ref sig .tc := ⟨.hbm, 99, rfl⟩
abbrev main_call4_v1 : Ref sig .tc := ⟨.hbm, 100, rfl⟩
abbrev main_v66 : Ref sig .tc := ⟨.hbm, 101, rfl⟩
abbrev main_cst_19 : Ref sig .tc := ⟨.hbm, 102, rfl⟩
abbrev main_v67 : Ref sig .tc := ⟨.hbm, 103, rfl⟩
abbrev main_v68 : Ref sig .tc := ⟨.hbm, 104, rfl⟩
abbrev main_c_20 : Ref sig .tc := ⟨.hbm, 105, rfl⟩
abbrev main_v69 : Ref sig .tc := ⟨.hbm, 106, rfl⟩
abbrev main_c_21 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_22 : Ref sig .tc := ⟨.hbm, 115, rfl⟩
abbrev main_call5_v0 : Ref sig .tc := ⟨.hbm, 116, rfl⟩
abbrev main_call5_v1 : Ref sig .tc := ⟨.hbm, 117, rfl⟩
abbrev main_v77 : Ref sig .tc := ⟨.hbm, 118, rfl⟩
abbrev main_v78 : Ref sig .tc := ⟨.hbm, 119, rfl⟩
abbrev main_c_23 : Ref sig .tc := ⟨.hbm, 120, rfl⟩
abbrev main_v79 : Ref sig .tc := ⟨.hbm, 121, rfl⟩
abbrev main_v80 : Ref sig .tc := ⟨.hbm, 122, rfl⟩
abbrev main_cst_24 : Ref sig .tc := ⟨.hbm, 123, rfl⟩
abbrev main_v81 : Ref sig .tc := ⟨.hbm, 124, rfl⟩
abbrev main_c_25 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_26 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_27 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_28 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_29 : Ref sig .tc := ⟨.hbm, 155, rfl⟩
abbrev main_v108 : Ref sig .tc := ⟨.hbm, 156, rfl⟩
abbrev main_v109 : Ref sig .tc := ⟨.hbm, 157, rfl⟩
abbrev main_cst_30 : Ref sig .tc := ⟨.hbm, 158, rfl⟩
abbrev main_v110 : Ref sig .tc := ⟨.hbm, 159, rfl⟩
abbrev main_v111 : Ref sig .tc := ⟨.hbm, 160, rfl⟩
abbrev main_c_31 : Ref sig .tc := ⟨.hbm, 161, rfl⟩
abbrev main_call6_call0_cst : Ref sig .tc := ⟨.hbm, 162, rfl⟩
abbrev main_call6_call0_v0 : Ref sig .tc := ⟨.hbm, 163, rfl⟩
abbrev main_call6_call0_v1 : Ref sig .tc := ⟨.hbm, 164, rfl⟩
abbrev main_call6_call0_cst_0 : Ref sig .tc := ⟨.hbm, 165, rfl⟩
abbrev main_call6_call0_v2 : Ref sig .tc := ⟨.hbm, 166, rfl⟩
abbrev main_call6_call0_v3 : Ref sig .tc := ⟨.hbm, 167, rfl⟩
abbrev main_call6_call0_v4 : Ref sig .tc := ⟨.hbm, 168, rfl⟩
abbrev main_call6_call0_v5 : Ref sig .tc := ⟨.hbm, 169, rfl⟩
abbrev main_call6_call0_v6 : Ref sig .tc := ⟨.hbm, 170, rfl⟩
abbrev main_call6_call0_v7 : Ref sig .tc := ⟨.hbm, 171, rfl⟩
abbrev main_call6_call0_cst_1 : Ref sig .tc := ⟨.hbm, 172, rfl⟩
abbrev main_call6_call0_v8 : Ref sig .tc := ⟨.hbm, 173, rfl⟩
abbrev main_call6_call0_cst_2 : Ref sig .tc := ⟨.hbm, 174, rfl⟩
abbrev main_call6_call0_v9 : Ref sig .tc := ⟨.hbm, 175, rfl⟩
abbrev main_call6_call0_v10 : Ref sig .tc := ⟨.hbm, 176, rfl⟩
abbrev main_call6_call0_v11 : Ref sig .tc := ⟨.hbm, 177, rfl⟩
abbrev main_call6_call0_v12 : Ref sig .tc := ⟨.hbm, 178, rfl⟩
abbrev main_call6_call0_cst_3 : Ref sig .tc := ⟨.hbm, 179, rfl⟩
abbrev main_call6_call0_v13 : Ref sig .tc := ⟨.hbm, 180, rfl⟩
abbrev main_call6_call0_cst_4 : Ref sig .tc := ⟨.hbm, 181, rfl⟩
abbrev main_call6_call0_call0_v0 : Ref sig .tc := ⟨.hbm, 182, rfl⟩
abbrev main_call6_call0_call0_v1 : Ref sig .tc := ⟨.hbm, 183, rfl⟩
abbrev main_call6_v0 : Ref sig .tc := ⟨.hbm, 184, rfl⟩
abbrev main_v112 : Ref sig .tc := ⟨.hbm, 185, rfl⟩
abbrev main_cst_32 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_cst_33 : Ref sig .tc := ⟨.hbm, 193, rfl⟩
abbrev main_v119 : Ref sig .tc := ⟨.hbm, 194, rfl⟩
abbrev main_v120 : Ref sig .tc := ⟨.hbm, 195, rfl⟩
abbrev main_cst_34 : Ref sig .tc := ⟨.hbm, 196, rfl⟩
abbrev main_v121 : Ref sig .tc := ⟨.hbm, 197, rfl⟩
abbrev main_v122 : Ref sig .tc := ⟨.hbm, 198, rfl⟩
abbrev main_c_35 : Ref sig .tc := ⟨.hbm, 199, rfl⟩
abbrev main_call7_call0_cst : Ref sig .tc := ⟨.hbm, 200, rfl⟩
abbrev main_call7_call0_v0 : Ref sig .tc := ⟨.hbm, 201, rfl⟩
abbrev main_call7_call0_v1 : Ref sig .tc := ⟨.hbm, 202, rfl⟩
abbrev main_call7_call0_cst_0 : Ref sig .tc := ⟨.hbm, 203, rfl⟩
abbrev main_call7_call0_v2 : Ref sig .tc := ⟨.hbm, 204, rfl⟩
abbrev main_call7_call0_v3 : Ref sig .tc := ⟨.hbm, 205, rfl⟩
abbrev main_call7_call0_v4 : Ref sig .tc := ⟨.hbm, 206, rfl⟩
abbrev main_call7_call0_v5 : Ref sig .tc := ⟨.hbm, 207, rfl⟩
abbrev main_call7_call0_v6 : Ref sig .tc := ⟨.hbm, 208, rfl⟩
abbrev main_call7_call0_v7 : Ref sig .tc := ⟨.hbm, 209, rfl⟩
abbrev main_call7_call0_cst_1 : Ref sig .tc := ⟨.hbm, 210, rfl⟩
abbrev main_call7_call0_v8 : Ref sig .tc := ⟨.hbm, 211, rfl⟩
abbrev main_call7_call0_cst_2 : Ref sig .tc := ⟨.hbm, 212, rfl⟩
abbrev main_call7_call0_v9 : Ref sig .tc := ⟨.hbm, 213, rfl⟩
abbrev main_call7_call0_v10 : Ref sig .tc := ⟨.hbm, 214, rfl⟩
abbrev main_call7_call0_v11 : Ref sig .tc := ⟨.hbm, 215, rfl⟩
abbrev main_call7_call0_v12 : Ref sig .tc := ⟨.hbm, 216, rfl⟩
abbrev main_call7_call0_cst_3 : Ref sig .tc := ⟨.hbm, 217, rfl⟩
abbrev main_call7_call0_v13 : Ref sig .tc := ⟨.hbm, 218, rfl⟩
abbrev main_call7_call0_cst_4 : Ref sig .tc := ⟨.hbm, 219, rfl⟩
abbrev main_call7_call0_call0_v0 : Ref sig .tc := ⟨.hbm, 220, rfl⟩
abbrev main_call7_call0_call0_v1 : Ref sig .tc := ⟨.hbm, 221, rfl⟩
abbrev main_call7_v0 : Ref sig .tc := ⟨.hbm, 222, rfl⟩
abbrev main_v123 : Ref sig .tc := ⟨.hbm, 223, rfl⟩
abbrev main_cst_36 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩

abbrev nD : Nat := 1
abbrev τ : Topo := Topo.v7x

variable {F : FTy → Type} [FloatOps F]
-- ==== Proof.Pre.lean ====
/-
  The two preconditions read at an element: every index word is a row number of the 2048 rows, and, for the second,
  every entry of the two float arrays is a real number.
-/
module

public import proofs.«01_k».proof.Proof.Gen.Pre_in_range
public import proofs.«01_k».proof.Proof.Gen.Pre_finite
public import Idealize.ShloMosaic.Lib.ReduceAll
public import Idealize.ShloMosaic.Lib.ValueIdx
public import Idealize.ShloMosaic.Lib.StableHlo.Predicate
public import Idealize.ShloMosaic.PureOps.Ideal

@[expose] public section

noncomputable section

namespace Cert.Pre

open Idealize.ShloMosaic

/-- The rank-0 shape has one index. -/
instance : Subsingleton (⟨0, ![]⟩ : Shape).Idx := ⟨fun a b => funext fun i => i.elim0⟩

/-- A word that is at least 0 and below 2048, both read signed, is below 2048 read unsigned. -/
theorem lt_of_bits (w : BitVec 32) (h : IntOp.andi (IntOp.cmpi .sge w 0#32) (IntOp.cmpi .slt w 2048#32) = 1#1) :
    w.toNat < 2048 := by
  have h' := h
  simp only [IntOp.cmpi, IntOp.andi] at h'
  have e1 : ((0#32).sle w) = true ∧ (w.slt 2048#32) = true := by
    revert h'
    cases (0#32).sle w <;> cases w.slt 2048#32 <;> decide
  obtain ⟨a, b⟩ := e1
  simp only [BitVec.sle, BitVec.slt, decide_eq_true_eq, BitVec.toInt, BitVec.toNat_ofNat] at a b
  have := w.isLt
  omega

section InRange

variable {F : FTy → Type} [FloatOps F]

/-- The first precondition: every index word is below 2048. -/
theorem in_range (x : FVec F ⟨3, ![2048, 128, 128]⟩ .f32) (y : FVec F ⟨2, ![2048, 128]⟩ .f32) (b : IVec ⟨1, ![9]⟩ 32) (n : IVec ⟨0, ![]⟩ 32)
    (h : Cert.Pre_in_range.fn (F := F) x y b n = fun _ => 1#1) (j : Fin 9) : (b (ValueIdx.ix1 j)).toNat < 2048 :=
  lt_of_bits _ (Host.reduce_andi_all _ _ _ _ _ (congrFun h (fun i => i.elim0)) (ValueIdx.ix1 j))

end InRange

/-- One bit of a conjunction of two bits that is set. -/
theorem and_split {a b : BitVec 1} (h : IntOp.andi a b = 1#1) : a = 1#1 ∧ b = 1#1 := by
  revert h; revert a b; decide

/-- An extended real whose absolute value is below the pattern of infinity is a real number. -/
theorem real_of_bit (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a with
  | bot => exact absurd h (by simp [Ideal.cmp])
  | top => exact absurd h (by simp [Ideal.cmp])
  | coe r => exact ⟨r, rfl⟩

section Finite

variable (x : FVec Ideal ⟨3, ![2048, 128, 128]⟩ .f32) (y : FVec Ideal ⟨2, ![2048, 128]⟩ .f32) (b : IVec ⟨1, ![9]⟩ 32) (n : IVec ⟨0, ![]⟩ 32)
  (h : Cert.Pre_finite.fn (F := Ideal) x y b n = fun _ => 1#1)

include h

/-- The second precondition: every index word is below 2048. -/
theorem finite_range (j : Fin 9) : (b (ValueIdx.ix1 j)).toNat < 2048 :=
  lt_of_bits _ (Host.reduce_andi_all _ _ _ _ _ (and_split (congrFun h (fun i => i.elim0))).1 (ValueIdx.ix1 j))

/-- The second precondition: every entry of the first array is a real number. -/
theorem finite_x (i : (⟨3, ![2048, 128, 128]⟩ : Shape).Idx) : ∃ r : ℝ, x i = (r : EReal) :=
  real_of_bit _ (Host.reduce_andi_all _ _ _ _ _ (and_split (and_split (congrFun h (fun i => i.elim0))).2).1 i)

/-- The second precondition: every entry of the second array is a real number. -/
theorem finite_y (i : (⟨2, ![2048, 128]⟩ : Shape).Idx) : ∃ r : ℝ, y i = (r : EReal) :=
  real_of_bit _ (Host.reduce_andi_all _ _ _ _ _ (and_split (and_split (congrFun h (fun i => i.elim0))).2).2 i)

end Finite

end Cert.Pre

end
-- ==== Proof.XBody.lean ====
/-
  One grid step of the first call (`cc0__x_block_kernel`): what its body leaves in the output block,
  as a function of the input block alone.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.ValueIdx
public import Idealize.ShloMosaic.Lib.WritesUnit
public import Idealize.ShloMosaic.Lib.Tactic
public import Idealize.ShloMosaic.Lib.WordCmp

@[expose] public section

set_option maxRecDepth 16384

noncomputable section

namespace Cert.KernelIdeal.X

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `8k … 8k+7` of a block (the row number read modulo 2048). -/
def chunk (x : Vec F S2048x8x128 .f32) (k : ℕ) : Vec F S8x8x128 .f32 :=
  fun j => x (ix3 ⟨(8 * k + (j 0).val) % 2048, Nat.mod_lt _ (by decide)⟩ (j 1) (j 2))

/-- The first loop's pair of accumulators before trip `n`. -/
def s1 (x : Vec F S2048x8x128 .f32) : ℕ → FVec F S8x8x128 .f32 × FVec F S8x8x128 .f32
  | 0 => (k0_pay5, k0_pay5)
  | n + 1 => (k0_pay6 (s1 x n).1 (chunk x n), k0_pay7 (s1 x n).2 (chunk x n))

/-- The second loop's three accumulators before trip `n`. -/
def s2 (x : Vec F S2048x8x128 .f32) : ℕ → FVec F S8x8x128 .f32 × FVec F S8x8x128 .f32 × FVec F S8x8x128 .f32
  | 0 => (k0_pay5, k0_pay5, k0_pay5)
  | n + 1 => (k0_pay10 (s1 x 256).1 (s1 x 256).2 (s2 x n).1 (chunk x n), k0_pay11 (s1 x 256).1 (s1 x 256).2 (s2 x n).2.1 (chunk x n),
      k0_pay12 (s1 x 256).1 (s1 x 256).2 (s2 x n).2.2 (chunk x n))

/-- The mean of the rows that the mask keeps, off the second loop's accumulators. -/
abbrev mean2 (x : Vec F S2048x8x128 .f32) : FVec F S1x8x128 .f32 := k0_pay14 (s2 x 256).1 (s2 x 256).2.2

/-- The standard deviation of the rows that the mask keeps. -/
abbrev std2 (x : Vec F S2048x8x128 .f32) : FVec F S1x8x128 .f32 := k0_pay15 (s2 x 256).1 (s2 x 256).2.1 (s2 x 256).2.2

/-- The third loop's two accumulators before trip `n`. -/
def s3 (x : Vec F S2048x8x128 .f32) : ℕ → FVec F S8x8x128 .f32 × FVec F S8x8x128 .f32
  | 0 => (k0_pay5, k0_pay5)
  | n + 1 => (k0_pay2 (mean2 x) (std2 x) k0_pay16 (s3 x n).1 (chunk x n), k0_pay3 (mean2 x) (std2 x) k0_pay16 (s3 x n).2 (chunk x n))

/-- The clipped block which the third loop stores, eight rows a trip. -/
def x2 (x : Vec F S2048x8x128 .f32) : Vec F S2048x8x128 .f32 :=
  fun y => k0_pay1 (mean2 x) (std2 x) k0_pay16 (chunk x ((y 0).val / 8)) (ix3 ⟨(y 0).val % 8, Nat.mod_lt _ (by decide)⟩ (y 1) (y 2))

/-- What the body leaves in the output block. -/
def xout (x : Vec F S2048x8x128 .f32) : Vec F S2048x8x128 .f32 := k0_pay4 (s3 x 256).1 (s3 x 256).2 (x2 x)

/-- The start of a whole block of three axes is the origin. -/
theorem hz3 : (![0, 0, 0] : Fin 3 → Nat) = fun _ => 0 := funext fun a => by fin_cases a <;> rfl

/-- The eight rows at an offset that is `8k` in closed form, read of the whole input buffer, are `chunk x k`. -/
theorem readAt_chunk (arg1 : Memref sig .tc .vmem S2048x8x128 .f32) (harg1 : arg1.IsWhole) (x : Vec F S2048x8x128 .f32)
    (off : Fin 3 → Nat) (k : ℕ) (hk : k < 256) (hoff : off = ![8 * k, 0, 0]) (inb : ∀ a, off a + S8x8x128.size a ≤ S2048x8x128.size a) :
    View.readAt (Elt F) arg1.view (Rect.unit (s := S2048x8x128) off S8x8x128.size inb).toLoadRect (harg1.unread x) = chunk x k := by
  subst hoff
  rw [View.readAt_eq_ld, harg1.read_unread]
  funext j
  unfold chunk View.ld
  refine congrArg x (funext fun a => Fin.ext ?_)
  have h0 : (j 0).val < 8 := (j 0).isLt
  match a with
  | ⟨0, _⟩ => show 8 * k + 1 * (j 0).val = (8 * k + (j 0).val) % 2048; omega
  | ⟨1, _⟩ => show 0 + 1 * (j 1).val = (j 1).val; omega
  | ⟨2, _⟩ => show 0 + 1 * (j 2).val = (j 2).val; omega

section Run

variable (c : Dev nD) (i : grid0.Coords) (arg1 : Memref sig .tc .vmem S2048x8x128 .f32) (harg1 : arg1.IsWhole)
  (arg2 : Memref sig .tc .vmem S2048x8x128 .f32) (harg2 : arg2.IsWhole) (x : Vec F S2048x8x128 .f32)

/-- The first loop's carried pair before trip `n` is `s1 x n`. -/
theorem st1_eq (n : ℕ) (hn : n ≤ 256) :
    st_k0_t1 Variants.none c none i arg1 harg1 arg2 harg2 (harg1.unread x) (k0_pay5, k0_pay5) n = s1 x n := by
  induction n with
  | zero => rfl
  | succ n ih =>
    have hk : n < k0_t1_loop.trips := by rw [show k0_t1_loop.trips = 256 from by decide +kernel]; omega
    refine (st_k0_t1_succ Variants.none c none i arg1 harg1 arg2 harg2 (harg1.unread x) (k0_pay5, k0_pay5) ⟨n, hk⟩).trans ?_
    simp only [ih (by omega)]
    unfold tripR_k0_t1 trip_k0_t1
    have h := readAt_chunk arg1 harg1 x (k0_off1 ⟨n, hk⟩) n (by omega) (k0_off1_eq _) (k0_off1_inb _)
    exact congrArg₂ Prod.mk (congrArg _ h) (congrArg _ h)

/-- The second loop's carried triple before trip `n` is `s2 x n`. -/
theorem st2_eq (n : ℕ) (hn : n ≤ 256) :
    st_k0_t2 Variants.none c none i arg1 harg1 arg2 harg2 (s1 x 256).1 (s1 x 256).2 (harg1.unread x) (k0_pay5, k0_pay5, k0_pay5) n = s2 x n := by
  induction n with
  | zero => rfl
  | succ n ih =>
    have hk : n < k0_t2_loop.trips := by rw [show k0_t2_loop.trips = 256 from by decide +kernel]; omega
    refine (st_k0_t2_succ Variants.none c none i arg1 harg1 arg2 harg2 _ _ (harg1.unread x) (k0_pay5, k0_pay5, k0_pay5) ⟨n, hk⟩).trans ?_
    simp only [ih (by omega)]
    unfold tripR_k0_t2 trip_k0_t2
    have h := readAt_chunk arg1 harg1 x (k0_off2 ⟨n, hk⟩) n (by omega) (k0_off2_eq _) (k0_off2_inb _)
    exact congrArg₂ Prod.mk (congrArg _ h) (congrArg₂ Prod.mk (congrArg _ h) (congrArg _ h))

/-- The third loop's state before trip `n`: the carried pair is `s3 x n`, and the rows stored so far read as `x2 x`. -/
theorem st3_eq (n : ℕ) (hn : n ≤ 256) :
    (st_k0_t3 Variants.none c none i arg1 harg1 arg2 harg2 (mean2 x) (std2 x) k0_pay16 (harg1.unread x) (k0_pay5, k0_pay5) n).1 = s3 x n
    ∧ ∀ (f : BufTy.Contents (Elt F) arg2.view.ty) (y : S2048x8x128.Idx), (y 0).val < 8 * n →
      arg2.view.read (Elt F) (arg2.view.writes (Elt F) f
        (st_k0_t3 Variants.none c none i arg1 harg1 arg2 harg2 (mean2 x) (std2 x) k0_pay16 (harg1.unread x) (k0_pay5, k0_pay5) n).2) y = x2 x y := by
  induction n with
  | zero => exact ⟨rfl, fun _ y h => absurd h (by omega)⟩
  | succ n ih =>
    obtain ⟨ih1, ih2⟩ := ih (by omega)
    have hk : n < k0_t3_loop.trips := by rw [show k0_t3_loop.trips = 256 from by decide +kernel]; omega
    have e := st_k0_t3_succ Variants.none c none i arg1 harg1 arg2 harg2 (mean2 x) (std2 x) k0_pay16 (harg1.unread x) (k0_pay5, k0_pay5) ⟨n, hk⟩
    have h := readAt_chunk arg1 harg1 x (k0_off3 ⟨n, hk⟩) n (by omega) (k0_off3_eq _) (k0_off3_inb _)
    refine ⟨?_, fun f y hy => ?_⟩
    · refine (congrArg Prod.fst e).trans ?_
      simp only [ih1]
      unfold tripR_k0_t3 trip_k0_t3
      exact congrArg₂ Prod.mk (congrArg _ h) (congrArg _ h)
    · refine (congrArg (fun L => arg2.view.read (Elt F) (arg2.view.writes (Elt F) f L) y) (congrArg Prod.snd e)).trans ?_
      dsimp only
      unfold tripL_k0_t3 trip_k0_t3
      by_cases hlt : (y 0).val < 8 * n
      · refine (View.read_writes_cons_unit_of_not_mem arg2.view f (k0_off3_inb ⟨n, hk⟩) _ _ y (k0_off3_eq ⟨n, hk⟩) 0 (.inl ?_)).trans (ih2 f y hlt)
        show (y 0).val < 8 * n
        exact hlt
      · refine (View.read_writes_cons_unit_of_mem arg2.view f (k0_off3_inb ⟨n, hk⟩) _ _ y
          (ix3 ⟨(y 0).val % 8, Nat.mod_lt _ (by decide)⟩ (y 1) (y 2)) (k0_off3_eq ⟨n, hk⟩) ?_).trans ?_
        · intro a
          match a with
          | ⟨0, _⟩ => show (y 0).val = 8 * n + (y 0).val % 8; omega
          | ⟨1, _⟩ => show (y 1).val = 0 + (y 1).val; omega
          | ⟨2, _⟩ => show (y 2).val = 0 + (y 2).val; omega
        · unfold x2
          have hd : (y 0).val / 8 = n := by omega
          rw [hd]
          exact congrArg (fun v => k0_pay1 (mean2 x) (std2 x) k0_pay16 v _) h

/-- The third loop's state at cuts that are the second loop's, whichever way these are written. -/
theorem st3_at (w1 : FVec F S8x8x128 .f32 × FVec F S8x8x128 .f32) (n1 n2 n3 : ℕ) (h1 : n1 = 256) (h2 : n2 = 256) (h3 : n3 = 256)
    (e1 : w1 = st_k0_t1 Variants.none c none i arg1 harg1 arg2 harg2 (harg1.unread x) (k0_pay5, k0_pay5) n1)
    (w2 : FVec F S8x8x128 .f32 × FVec F S8x8x128 .f32 × FVec F S8x8x128 .f32)
    (e2 : w2 = st_k0_t2 Variants.none c none i arg1 harg1 arg2 harg2 w1.1 w1.2 (harg1.unread x) (k0_pay5, k0_pay5, k0_pay5) n2) :
    st_k0_t3 Variants.none c none i arg1 harg1 arg2 harg2 (k0_pay14 w2.1 w2.2.2) (k0_pay15 w2.1 w2.2.1 w2.2.2) k0_pay16 (harg1.unread x) (k0_pay5, k0_pay5) n3
      = st_k0_t3 Variants.none c none i arg1 harg1 arg2 harg2 (mean2 x) (std2 x) k0_pay16 (harg1.unread x) (k0_pay5, k0_pay5) 256 := by
  subst h1 h2 h3
  obtain rfl := e1.trans (st1_eq c i arg1 harg1 arg2 harg2 x 256 le_rfl)
  obtain rfl := e2.trans (st2_eq c i arg1 harg1 arg2 harg2 x 256 le_rfl)
  rfl

/-- The output buffer after the last store reads as `xout x`. -/
theorem out_read (f : BufTy.Contents (Elt F) arg2.view.ty) (w3 : (FVec F S8x8x128 .f32 × FVec F S8x8x128 .f32) × List (View.Piece (Elt F) S2048x8x128 .f32))
    (e3 : w3 = st_k0_t3 Variants.none c none i arg1 harg1 arg2 harg2 (mean2 x) (std2 x) k0_pay16 (harg1.unread x) (k0_pay5, k0_pay5) 256) :
    arg2.view.read (Elt F) (arg2.view.writes (Elt F) f
      (⟨Rect.unit (s := S2048x8x128) ![0, 0, 0] S2048x8x128.size inb_S2048x8x128_S2048x8x128_0_0_0, k0_pay4 w3.1.1 w3.1.2
        (View.readAt (Elt F) arg2.view (Rect.unit (s := S2048x8x128) ![0, 0, 0] S2048x8x128.size inb_S2048x8x128_S2048x8x128_0_0_0).toLoadRect
          (arg2.view.writes (Elt F) f w3.2))⟩ :: w3.2)) = xout x := by
  subst e3
  funext y
  refine (View.read_writes_cons_unit_of_mem arg2.view f _ _ _ y y hz3 fun a => (Nat.zero_add _).symm).trans ?_
  have h : View.readAt (Elt F) arg2.view (Rect.unit (s := S2048x8x128) ![0, 0, 0] S2048x8x128.size inb_S2048x8x128_S2048x8x128_0_0_0).toLoadRect
      (arg2.view.writes (Elt F) f (st_k0_t3 Variants.none c none i arg1 harg1 arg2 harg2 (mean2 x) (std2 x) k0_pay16 (harg1.unread x) (k0_pay5, k0_pay5) 256).2) = x2 x := by
    rw [View.readAt_eq_ld, View.ld_unit_zero hz3]
    funext z
    exact (st3_eq c i arg1 harg1 arg2 harg2 x 256 le_rfl).2 f z (z 0).isLt
  unfold xout
  rw [h, (st3_eq c i arg1 harg1 arg2 harg2 x 256 le_rfl).1]

end Run

set_option maxHeartbeats 1000000 in
/-- One run of the first call's body: the input block stays and the output block becomes the body's value of it. -/
theorem kernelRun0 (c : Dev nD) (i : grid0.Coords) (arg1 : Memref sig .tc .vmem S2048x8x128 .f32) (harg1 : arg1.IsWhole) (arg2 : Memref sig .tc .vmem S2048x8x128 .f32) (harg2 : arg2.IsWhole) (x0 : Vec F S2048x8x128 .f32) : ∀ (E : Set ℕ) (K : PUnit → sProp 𝕄),
  iprop(owns (c : Thread nD τ) arg1 fullShare x0 ∗ (∃ d, owns (c : Thread nD τ) arg2 fullShare d) ∗ (iprop(owns (c : Thread nD τ) arg1 fullShare x0 ∗ owns (c : Thread nD τ) arg2 fullShare (xout x0)) -∗ K ⟨⟩)) ⊢ wp frame (wpE (defs₀ (F := F)) Variants.none (c : Thread nD τ) none) E (cc0__x_block_kernel i arg1 harg1 arg2 harg2) K := by
  intro E K; simp only [cc0__x_block_kernel_eq_skeleton]; unfold cc0__x_block_kernel_skel; simp only [k0_part1_eq_skeleton]; unfold owns
  iintro ⟨⟨%f0, %hf0, H0⟩, ⟨%d1, %f1, -, H1⟩, Hk⟩; obtain rfl := harg1.eq_unread hf0
  sl_exec; sl_step
  iapply Hk
  isplitl [H0]
  · iexists _; isplitl []
    · ipureintro; exact harg1.read_unread _
    iexact H0
  iexists _
  isplitl []
  on_goal 2 => iexact H1
  ipureintro
  sl_unfold_words
  refine out_read c i arg1 harg1 arg2 harg2 x0 f1 _ ?_
  exact st3_at c i arg1 harg1 arg2 harg2 x0 _ _ _ _ (by decide +kernel) (by decide +kernel) (by decide +kernel) rfl _ rfl

end Cert.KernelIdeal.X

end
-- ==== Proof.YBody.lean ====
/-
  The second call's one step (`cc1__y_kernel`): what its body leaves in its two outputs, as functions of `y` and of the
  nine words of the index table, given that every word is a row number.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.ValueIdx
public import Idealize.ShloMosaic.Lib.WritesUnit
public import Idealize.ShloMosaic.Lib.Tactic
public import Idealize.ShloMosaic.Lib.WordCmp

@[expose] public section

set_option maxRecDepth 16384

noncomputable section

namespace Cert.KernelIdeal.Y

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The index table as the body is handed it: the whole of its buffer. -/
abbrev tbM : Memref sig .tc .smem S9 .i32 := Memref.whole main_arg2
abbrev htbM : tbM.IsWhole := Memref.isWhole_whole _

/-- The table's contents on core `c`. -/
abbrev Tb (c : Dev nD) : Type := Buf (Elt F) (tbM.view.loc (c : Thread nD τ))
/-- The table held at contents `f`. -/
abbrev tbPt (c : Dev nD) (f : Tb (F := F) c) : sProp 𝕄 := tbM.view.loc (c : Thread nD τ) ↦{fullShare} f

/-- Row `w` of `y`, as a one-row block (the row number read modulo 2048). -/
def yrow (y : Vec F S2048x128 .f32) (w : BitVec 32) : Vec F S1x128 .f32 :=
  fun j => y (ix2 ⟨w.toNat % 2048, Nat.mod_lt _ (by decide)⟩ (j 1))

/-- The labels: how many of the nine indexed rows each entry exceeds. -/
def ylab (y : Vec F S2048x128 .f32) (T : Vec F S9 .i32) : IVec S2048x128 32 :=
  k1_pay1 y (k1_pay4 y (k1_pay3 y (yrow y (T (ValueIdx.ix1 0))) (yrow y (T (ValueIdx.ix1 1)))) (yrow y (T (ValueIdx.ix1 2))) (yrow y (T (ValueIdx.ix1 3)))
    (yrow y (T (ValueIdx.ix1 4))) (yrow y (T (ValueIdx.ix1 5))) (yrow y (T (ValueIdx.ix1 6))) (yrow y (T (ValueIdx.ix1 7)))) (yrow y (T (ValueIdx.ix1 8)))

/-- The start of a whole block of two axes is the origin. -/
theorem hz2 : (![0, 0] : Fin 2 → Nat) = fun _ => 0 := funext fun a => by fin_cases a <;> rfl

/-- A row number in range keeps a one-row access inside `y`. -/
theorem row_inb (w : BitVec 32) (h : w.toNat < 2048) : ∀ a, (![w.toNat, 0] : Fin 2 → Nat) a + S1x128.size a ≤ S2048x128.size a := by
  intro a
  match a with
  | ⟨0, _⟩ => show w.toNat + 1 ≤ 2048; omega
  | ⟨1, _⟩ => show 0 + 128 ≤ 128; omega

/-- A table read at entry `j` is the table's word there. -/
theorem word_read (c : Dev nD) (xt : Tb (F := F) c) (j : Fin 9) (inb : ∀ a, (![j.val] : Fin 1 → Nat) a + S1.size a ≤ S9.size a) :
    tbM.view.readAt (Elt F) (Rect.unit (s := S9) ![j.val] S1.size inb).toLoadRect xt (Shape.Idx.first (numel1_S1.symm ▸ Nat.one_pos)) = (xt : Vec F S9 .i32) (ValueIdx.ix1 j) := by
  rw [View.readAt_eq_ld]
  refine congrArg (xt : Vec F S9 .i32) (funext fun a => Fin.ext ?_)
  match a with
  | ⟨0, _⟩ => exact (fun q : Fin 1 => by omega : ∀ q : Fin 1, j.val + 1 * q.val = j.val) _

/-- One row of `y` read of its whole buffer. -/
theorem row_read (arg2 : Memref sig .tc .vmem S2048x128 .f32) (harg2 : arg2.IsWhole) (y : Vec F S2048x128 .f32) (w : BitVec 32) (hw : w.toNat < 2048)
    (off : Fin 2 → Nat) (hoff : off = ![w.toNat, 0]) (inb : ∀ a, off a + S1x128.size a ≤ S2048x128.size a) :
    View.readAt (Elt F) arg2.view (Rect.unit (s := S2048x128) off S1x128.size inb).toLoadRect (harg2.unread y) = yrow y w := by
  subst hoff
  rw [View.readAt_eq_ld, harg2.read_unread]
  funext j
  unfold yrow View.ld
  refine congrArg y (funext fun a => Fin.ext ?_)
  have h0 : (j 0).val < 1 := (j 0).isLt
  match a with
  | ⟨0, _⟩ => show w.toNat + 1 * (j 0).val = w.toNat % 2048; omega
  | ⟨1, _⟩ => show 0 + 1 * (j 1).val = (j 1).val; omega

/-- The whole of `y` read of its buffer. -/
theorem whole_read (arg2 : Memref sig .tc .vmem S2048x128 .f32) (harg2 : arg2.IsWhole) (y : Vec F S2048x128 .f32) :
    View.readAt (Elt F) arg2.view (Rect.unit (s := S2048x128) ![0, 0] S2048x128.size inb_S2048x128_S2048x128_0_0).toLoadRect (harg2.unread y) = y := by
  rw [View.readAt_eq_ld, harg2.read_unread, View.ld_unit_zero hz2]

/-- The labels' payload at rows equal to the indexed ones. -/
theorem lab_congr (y : Vec F S2048x128 .f32) (T : Vec F S9 .i32) {v0 : Vec F S2048x128 .f32} {v25 v32 v39 v46 v53 v60 v67 v74 v81 : Vec F S1x128 .f32} (h0 : v0 = y)
    (h1 : v25 = yrow y (T (ValueIdx.ix1 0))) (h2 : v32 = yrow y (T (ValueIdx.ix1 1))) (h3 : v39 = yrow y (T (ValueIdx.ix1 2))) (h4 : v46 = yrow y (T (ValueIdx.ix1 3))) (h5 : v53 = yrow y (T (ValueIdx.ix1 4))) (h6 : v60 = yrow y (T (ValueIdx.ix1 5))) (h7 : v67 = yrow y (T (ValueIdx.ix1 6))) (h8 : v74 = yrow y (T (ValueIdx.ix1 7))) (h9 : v81 = yrow y (T (ValueIdx.ix1 8))) :
    k1_pay1 v0 (k1_pay4 v0 (k1_pay3 v0 v25 v32) v39 v46 v53 v60 v67 v74) v81 = ylab y T := by
  subst h0 h1 h2 h3 h4 h5 h6 h7 h8 h9
  rfl

set_option maxHeartbeats 1000000 in
/-- The body's run: from `y` and the table, the normalized `y` and the labels. -/
theorem kernelRun1 (c : Dev nD) (i : grid1.Coords) (arg2 : Memref sig .tc .vmem S2048x128 .f32) (harg2 : arg2.IsWhole) (arg3 : Memref sig .tc .vmem S2048x128 .f32) (harg3 : arg3.IsWhole) (arg4 : Memref sig .tc .vmem S2048x128 .i32) (harg4 : arg4.IsWhole)
    (y : Vec F S2048x128 .f32) (xt : Tb (F := F) c) (hT : ∀ j : Fin 9, ((xt : Vec F S9 .i32) (ValueIdx.ix1 j) : BitVec 32).toNat < 2048) : ∀ (E : Set ℕ) (K : PUnit → sProp 𝕄),
    iprop(owns (c : Thread nD τ) arg2 fullShare y ∗ (∃ d, owns (c : Thread nD τ) arg3 fullShare d) ∗ (∃ d, owns (c : Thread nD τ) arg4 fullShare d) ∗ tbPt c xt
        ∗ (iprop(owns (c : Thread nD τ) arg2 fullShare y ∗ owns (c : Thread nD τ) arg3 fullShare (k1_pay2 y) ∗ owns (c : Thread nD τ) arg4 fullShare (ylab y xt) ∗ tbPt c xt) -∗ K ⟨⟩))
      ⊢ wp frame (wpE (defs₀ (F := F)) Variants.none (c : Thread nD τ) none) E (cc1__y_kernel i tbM htbM arg2 harg2 arg3 harg3 arg4 harg4) K := by
  intro E K
  have wd0 := word_read c xt 0 inb_S9_S1_0
  have wd1 := word_read c xt 1 inb_S9_S1_1
  have wd2 := word_read c xt 2 inb_S9_S1_2
  have wd3 := word_read c xt 3 inb_S9_S1_3
  have wd4 := word_read c xt 4 inb_S9_S1_4
  have wd5 := word_read c xt 5 inb_S9_S1_5
  have wd6 := word_read c xt 6 inb_S9_S1_6
  have wd7 := word_read c xt 7 inb_S9_S1_7
  have wd8 := word_read c xt 8 inb_S9_S1_8
  have chk1 : k1_chk1 (tbM.view.readAt (Elt F) (Rect.unit (s := S9) ![0] S1.size inb_S9_S1_0).toLoadRect xt (Shape.Idx.first (numel1_S1.symm ▸ Nat.one_pos))) := row_inb _ ((congrArg BitVec.toNat wd0).trans_lt (hT 0))
  have chk2 : k1_chk2 (tbM.view.readAt (Elt F) (Rect.unit (s := S9) ![1] S1.size inb_S9_S1_1).toLoadRect xt (Shape.Idx.first (numel1_S1.symm ▸ Nat.one_pos))) := row_inb _ ((congrArg BitVec.toNat wd1).trans_lt (hT 1))
  have chk3 : k1_chk3 (tbM.view.readAt (Elt F) (Rect.unit (s := S9) ![2] S1.size inb_S9_S1_2).toLoadRect xt (Shape.Idx.first (numel1_S1.symm ▸ Nat.one_pos))) := row_inb _ ((congrArg BitVec.toNat wd2).trans_lt (hT 2))
  have chk4 : k1_chk4 (tbM.view.readAt (Elt F) (Rect.unit (s := S9) ![3] S1.size inb_S9_S1_3).toLoadRect xt (Shape.Idx.first (numel1_S1.symm ▸ Nat.one_pos))) := row_inb _ ((congrArg BitVec.toNat wd3).trans_lt (hT 3))
  have chk5 : k1_chk5 (tbM.view.readAt (Elt F) (Rect.unit (s := S9) ![4] S1.size inb_S9_S1_4).toLoadRect xt (Shape.Idx.first (numel1_S1.symm ▸ Nat.one_pos))) := row_inb _ ((congrArg BitVec.toNat wd4).trans_lt (hT 4))
  have chk6 : k1_chk6 (tbM.view.readAt (Elt F) (Rect.unit (s := S9) ![5] S1.size inb_S9_S1_5).toLoadRect xt (Shape.Idx.first (numel1_S1.symm ▸ Nat.one_pos))) := row_inb _ ((congrArg BitVec.toNat wd5).trans_lt (hT 5))
  have chk7 : k1_chk7 (tbM.view.readAt (Elt F) (Rect.unit (s := S9) ![6] S1.size inb_S9_S1_6).toLoadRect xt (Shape.Idx.first (numel1_S1.symm ▸ Nat.one_pos))) := row_inb _ ((congrArg BitVec.toNat wd6).trans_lt (hT 6))
  have chk8 : k1_chk8 (tbM.view.readAt (Elt F) (Rect.unit (s := S9) ![7] S1.size inb_S9_S1_7).toLoadRect xt (Shape.Idx.first (numel1_S1.symm ▸ Nat.one_pos))) := row_inb _ ((congrArg BitVec.toNat wd7).trans_lt (hT 7))
  have chk9 : k1_chk9 (tbM.view.readAt (Elt F) (Rect.unit (s := S9) ![8] S1.size inb_S9_S1_8).toLoadRect xt (Shape.Idx.first (numel1_S1.symm ▸ Nat.one_pos))) := row_inb _ ((congrArg BitVec.toNat wd8).trans_lt (hT 8))
  simp only [cc1__y_kernel_eq_skeleton]; unfold cc1__y_kernel_skel
  simp only [k1_part1_eq_skeleton, k1_part2_eq_skeleton]
  unfold owns
  iintro ⟨⟨%f0, %hf0, H0⟩, ⟨%d1, %f1, -, H1⟩, ⟨%d2, %f2, -, H2⟩, HT0, Hk⟩
  obtain rfl := harg2.eq_unread hf0
  sl_exec (disch := first | sl_exact chk1 | sl_exact chk2 | sl_exact chk3 | sl_exact chk4 | sl_exact chk5 | sl_exact chk6 | sl_exact chk7 | sl_exact chk8 | sl_exact chk9)
  sl_step
  iapply Hk
  isplitl [H0]
  · iexists _; isplitr; · ipureintro; exact harg2.read_unread _
    iexact H0
  isplitl [H1]
  · iexists _; isplitl []
    on_goal 2 => iexact H1
    ipureintro
    funext z
    refine (View.read_writes_cons_unit_of_mem arg3.view f1 _ _ _ z z hz2 fun a => (Nat.zero_add _).symm).trans ?_
    exact congrFun (congrArg k1_pay2 (whole_read arg2 harg2 y)) z
  isplitl [H2]
  · iexists _; isplitl []
    on_goal 2 => iexact H2
    ipureintro
    sl_unfold_words
    funext z
    refine (View.read_writes_cons_unit_of_mem arg4.view f2 _ _ _ z z hz2 fun a => (Nat.zero_add _).symm).trans ?_
    exact congrFun (lab_congr y xt (whole_read arg2 harg2 y)
      (row_read arg2 harg2 y _ (hT 0) _ (congrArg (fun w : BitVec 32 => (![w.toNat, 0] : Fin 2 → Nat)) wd0) _)
      (row_read arg2 harg2 y _ (hT 1) _ (congrArg (fun w : BitVec 32 => (![w.toNat, 0] : Fin 2 → Nat)) wd1) _)
      (row_read arg2 harg2 y _ (hT 2) _ (congrArg (fun w : BitVec 32 => (![w.toNat, 0] : Fin 2 → Nat)) wd2) _)
      (row_read arg2 harg2 y _ (hT 3) _ (congrArg (fun w : BitVec 32 => (![w.toNat, 0] : Fin 2 → Nat)) wd3) _)
      (row_read arg2 harg2 y _ (hT 4) _ (congrArg (fun w : BitVec 32 => (![w.toNat, 0] : Fin 2 → Nat)) wd4) _)
      (row_read arg2 harg2 y _ (hT 5) _ (congrArg (fun w : BitVec 32 => (![w.toNat, 0] : Fin 2 → Nat)) wd5) _)
      (row_read arg2 harg2 y _ (hT 6) _ (congrArg (fun w : BitVec 32 => (![w.toNat, 0] : Fin 2 → Nat)) wd6) _)
      (row_read arg2 harg2 y _ (hT 7) _ (congrArg (fun w : BitVec 32 => (![w.toNat, 0] : Fin 2 → Nat)) wd7) _)
      (row_read arg2 harg2 y _ (hT 8) _ (congrArg (fun w : BitVec 32 => (![w.toNat, 0] : Fin 2 → Nat)) wd8) _)) z
  iexact HT0

end Cert.KernelIdeal.Y

end
-- ==== Proof.Dats.lean ====
/-
  What each of the two calls finds in its arrays and what its body leaves in them at every grid point, for any contents
  of the device's buffers at the call's entry; and that the bodies meet these descriptions.
-/
module

public import proofs.«01_k».proof.Proof.XBody
public import proofs.«01_k».proof.Proof.YBody
public import Idealize.ShloMosaic.Lib.Pipeline.Frame
public import Idealize.ShloMosaic.Lib.Pipeline.FrameTail

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The buffers of every core at some moment. -/
abbrev Vals : Type := Dev nD → Valuation τ sig (Elt F)

variable (W : Vals (F := F))

/-! ## The first call -/

/-- Window `w`'s block of its array at grid point `t` of the first call. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first call: the input's block stays, the output's block is `X.xout` of it. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => X.xout (iblk0 W c 0 t)
  Φ _ := Pipeline.ΦA spec0 c
  q _ := fullShare
  owed _ := 0

/-- The first call finds each array as the valuation holds it. -/
theorem dat0_A (c : Dev nD) (w : Fin cfg0.W) : (dat0 W c).A w = W c (Proc.devRef .tc (Pipeline.arrRef spec0 w)) := by
  dsimp only [dat0]
/-- A step of the first call leaves its input block as fetched. -/
theorem dat0_after0 (c : Dev nD) (t : Fin cfg0.N) : (dat0 W c).after 0 t = iblk0 W c 0 t := by dsimp only [dat0]; try rfl
/-- A step of the first call leaves in its output block what the body computes of the input block. -/
theorem dat0_after1 (c : Dev nD) (t : Fin cfg0.N) : (dat0 W c).after 1 t = X.xout (iblk0 W c 0 t) := by dsimp only [dat0]; try rfl

/-- Before each point the input's staging buffer holds the input's block. -/
theorem dat0_before0 (c : Dev nD) (t : Fin cfg0.N) (d) : (dat0 W c).before 0 t d = iblk0 W c 0 t :=
  ((dat0 W c).before_in_eq_fetched 0 rfl (fun _ => rfl) (fun _ _ _ => rfl)
    (fun t => by rw [dat0_after0]; unfold Dat.blockOf iblk0; rw [dat0_A]; try rfl) t d).trans
    (by unfold Dat.fetched Dat.blockOf iblk0; rw [dat0_A]; try rfl)

/-- The body of the first call at any point, from what it is called with to what it returns. -/
theorem sound0 (c : Dev nD) (t : Fin cfg0.N) :
    iprop((dat0 W c).Φ t.castSucc ∗ (dat0 W c).owesAt () t.castSucc
      ∗ (∃ d, owns (c : Thread nD τ) (st0_0 t) fullShare ((dat0 W c).before 0 t d))
      ∗ (∃ d, owns (c : Thread nD τ) (st0_1 t) fullShare ((dat0 W c).before 1 t d)))
    ⊢ wp frame (wpE (defs₀ (F := F)) Variants.none c none) Set.univ (bodyAt0 t) (fun _ =>
      iprop((dat0 W c).Φ t.succ ∗ (dat0 W c).owesAt () t.succ
        ∗ owns (c : Thread nD τ) (st0_0 t) fullShare ((dat0 W c).after 0 t)
        ∗ owns (c : Thread nD τ) (st0_1 t) fullShare ((dat0 W c).after 1 t))) := by
  unfold bodyAt0
  simp only [dat0_before0]
  rw [show (dat0 W c).Φ t.succ = (dat0 W c).Φ t.castSucc from rfl,
    show (dat0 W c).owesAt () t.succ = (dat0 W c).owesAt () t.castSucc from rfl, dat0_after0, dat0_after1]
  iintro ⟨HΦ, Ho, ⟨%d0, H0⟩, ⟨%d1, H1⟩⟩
  iapply (X.kernelRun0 c (grid0.coords t) _ _ _ _ (iblk0 W c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's entry for the first call is its body at the point's staging buffers. -/
theorem row0 (t : Fin cfg0.N) : defs₀ (F := F) .tc cfg0.body (cfg0.bodyArgs t (cfg0.slots t)) = bodyAt0 t := by
  unfold defs₀; rw [Defs.onTc_tc]

/-- The first call's body does what `dat0` says, at every point. -/
theorem obligation0 (c : Dev nD) : BodyObligation (dat0 W c) (defs₀ (F := F)) Variants.none () Set.univ := fun t => by
  rw [bigSep_W0, bigSep_W0, row0]
  exact triple_restated (sound0 W c t) rfl .rfl fun _ => .rfl

/-! ## The second call -/

/-- The index table's contents at the second call's entry. -/
def tbl : pre1.Contents (Elt F) := fun j => W (0 : Dev nD) (Proc.devRef .tc (pre1.ref j))

/-- The second call's table is the array that the valuation holds. -/
theorem tbl_eq (c : Dev nD) (j : Fin 1) : tbl W j = W c (Proc.devRef .tc (pre1.ref j)) := by
  obtain rfl : c = 0 := Subsingleton.elim _ _; rfl

/-- The table's contents as contents the second call admits: it asks nothing of them. -/
abbrev adm1 : (pcfg1 (F := F)).Adm := ⟨tbl W, trivial⟩

abbrev cfgM : Pipeline.Cfg sig Λ₀ := cfg1 (adm1 W)

/-- The table's buffer held at its contents. -/
abbrev tblHeld (c : Dev nD) : sProp 𝕄 :=
  Pipeline.prefHeld (Ix := Unit) (Name := ℕ) (U := UR sig nD τ) (Lvl := ℕ) pre1 c (fun _ => fullShare) (tbl W)

/-- The table as the body takes it. -/
theorem tables_eq (c : Dev nD) : (tblHeld W c : sProp 𝕄) = iprop(Y.tbPt c (tbl W 0)) := by
  unfold tblHeld Pipeline.prefHeld
  rw [show (Finset.univ : Finset (Fin 1)) = {(0 : Fin 1)} from by decide, bigSep_singleton]
  rfl

/-- Window `w`'s block of its array at the second call's point. -/
def iblk1 (c : Dev nD) (w : Fin (cfgM W).W) (t : Fin (cfgM W).N) : (((cfgM W).win w).xblock ((cfgM W).grid.coords t)).Idx → Elt F ((cfgM W).win w).elt :=
  (((cfgM W).win w).blk t).view.read (Elt F) (W c (Proc.devRef .tc (Pipeline.arrRef spec1 w)))

/-- The second call: `y`'s block stays, the outputs are its normalisation and its labels. -/
def dat1 (c : Dev nD) : Dat τ (Elt F) Unit ℕ (UR sig nD τ) ℕ (cfgM W) c where
  A w := W c (Proc.devRef .tc (Pipeline.arrRef spec1 w))
  after w t := match w with
    | ⟨0, _⟩ => iblk1 W c 0 t
    | ⟨1, _⟩ => k1_pay2 (iblk1 W c 0 t)
    | ⟨2, _⟩ => Y.ylab (iblk1 W c 0 t) (tbl W 0)
  Φ _ := iprop(Pipeline.ΦA spec1 c ∗ tblHeld W c)
  q _ := fullShare
  owed _ := 0

/-- The second call finds each array as the valuation holds it. -/
theorem dat1_A (c : Dev nD) (w : Fin (cfgM W).W) : (dat1 W c).A w = W c (Proc.devRef .tc (Pipeline.arrRef spec1 w)) := by
  dsimp only [dat1]
/-- The second call leaves its input block as fetched. -/
theorem dat1_after0 (c : Dev nD) (t : Fin (cfgM W).N) : (dat1 W c).after 0 t = iblk1 W c 0 t := by dsimp only [dat1]; try rfl
/-- The second call leaves the normalised matrix in its first output block. -/
theorem dat1_after1 (c : Dev nD) (t : Fin (cfgM W).N) : (dat1 W c).after 1 t = k1_pay2 (iblk1 W c 0 t) := by dsimp only [dat1]; try rfl
/-- The second call leaves the labels in its second output block. -/
theorem dat1_after2 (c : Dev nD) (t : Fin (cfgM W).N) : (dat1 W c).after 2 t = Y.ylab (iblk1 W c 0 t) (tbl W 0) := by dsimp only [dat1]; try rfl

/-- Before the point `y`'s staging buffer holds `y`. -/
theorem dat1_before0 (c : Dev nD) (t : Fin (cfgM W).N) (d) : (dat1 W c).before 0 t d = iblk1 W c 0 t :=
  ((dat1 W c).before_in_eq_fetched 0 rfl (fun _ => rfl) (fun _ _ _ => rfl)
    (fun t => by rw [dat1_after0]; unfold Dat.blockOf iblk1; rw [dat1_A]; try rfl) t d).trans
    (by unfold Dat.fetched Dat.blockOf iblk1; rw [dat1_A]; try rfl)

/-- The second call's staging buffers at point `t`. -/
abbrev sg0 (t : Fin (cfgM W).N) : Memref sig .tc .vmem S2048x128 .f32 := spec1_0.stage ((cfgM W).slots t 0)
abbrev sg1 (t : Fin (cfgM W).N) : Memref sig .tc .vmem S2048x128 .f32 := spec1_1.stage ((cfgM W).slots t 1)
abbrev sg2 (t : Fin (cfgM W).N) : Memref sig .tc .vmem S2048x128 .i32 := spec1_2.stage ((cfgM W).slots t 2)

/-- The second call's body at point `t`. -/
abbrev bodyM (t : Fin (cfgM W).N) : Prog (TpuEff nD τ sig (Elt F) Λ₀ .tc) PUnit :=
  cc1__y_kernel (grid1.coords t) (Memref.whole main_arg2) (Memref.isWhole_whole _)
    (sg0 W t) (hstage1_0 (((cfgM W).slots t 0).cast nbuf1_0))
    (sg1 W t) (hstage1_1 (((cfgM W).slots t 1).cast nbuf1_1))
    (sg2 W t) (hstage1_2 (((cfgM W).slots t 2).cast nbuf1_2))

/-- Every word of the table is a row number of `y`. -/
def TableOk : Prop := ∀ j : Fin 9, (((tbl W 0 : Vec F S9 .i32)) (ValueIdx.ix1 j) : BitVec 32).toNat < 2048

/-- The body of the second call, from what it is called with to what it returns. -/
theorem sound1 (hT : TableOk W) (c : Dev nD) (t : Fin (cfgM W).N) :
    iprop((dat1 W c).Φ t.castSucc ∗ (dat1 W c).owesAt () t.castSucc
      ∗ (∃ d, owns (c : Thread nD τ) (sg0 W t) fullShare ((dat1 W c).before 0 t d))
      ∗ (∃ d, owns (c : Thread nD τ) (sg1 W t) fullShare ((dat1 W c).before 1 t d))
      ∗ (∃ d, owns (c : Thread nD τ) (sg2 W t) fullShare ((dat1 W c).before 2 t d)))
    ⊢ wp frame (wpE (defs₀ (F := F)) Variants.none c none) Set.univ (bodyM W t) (fun _ =>
      iprop((dat1 W c).Φ t.succ ∗ (dat1 W c).owesAt () t.succ
        ∗ owns (c : Thread nD τ) (sg0 W t) fullShare ((dat1 W c).after 0 t)
        ∗ owns (c : Thread nD τ) (sg1 W t) fullShare ((dat1 W c).after 1 t)
        ∗ owns (c : Thread nD τ) (sg2 W t) fullShare ((dat1 W c).after 2 t))) := by
  unfold bodyM
  simp only [dat1_before0]
  rw [show (dat1 W c).Φ t.succ = (dat1 W c).Φ t.castSucc from rfl,
    show (dat1 W c).owesAt () t.succ = (dat1 W c).owesAt () t.castSucc from rfl, dat1_after0, dat1_after1, dat1_after2]
  rw [show (dat1 W c).Φ t.castSucc = iprop(Pipeline.ΦA spec1 c ∗ tblHeld W c) from rfl, tables_eq]
  iintro ⟨⟨HΦ, HT⟩, Ho, ⟨%d0, H0⟩, ⟨%d1, H1⟩, ⟨%d2, H2⟩⟩
  iapply (Y.kernelRun1 c (grid1.coords t) _ _ _ _ _ _ (iblk1 W c 0 t) (tbl W 0) hT Set.univ _)
  isplitl [H0]; · iexact H0
  isplitl [H1]; · iexists _; iexact H1
  isplitl [H2]; · iexists _; iexact H2
  isplitl [HT]; · iexact HT
  iintro ⟨H0, H1, H2, HT⟩
  isplitl [HΦ HT]
  · isplitl [HΦ]
    · iexact HΦ
    iexact HT
  isplitl [Ho]; · iexact Ho
  isplitl [H0]; · iexact H0
  isplitl [H1]; · iexact H1
  iexact H2

/-- The body table's entry for the second call is its body at the staging buffers. -/
theorem row1 (t : Fin (cfgM W).N) :
    defs₀ (F := F) .tc (cfgM W).body ((cfgM W).bodyArgs t ((cfgM W).slots t)) = bodyM W t := by
  unfold defs₀; rw [Defs.onTc_tc]

/-- The second call's body does what `dat1` says. -/
theorem obligation1 (hT : TableOk W) (c : Dev nD) : BodyObligation (dat1 W c) (defs₀ (F := F)) Variants.none () Set.univ := fun t => by
  rw [bigSep_W1, bigSep_W1, row1]
  exact triple_restated (sound1 W hT c t) rfl .rfl fun _ => .rfl

end Cert.KernelIdeal.Run

end
-- ==== Proof.Run.lean ====
/-
  The program's run: its two calls one after the other, from any memory whose index table holds row numbers. The run
  ends, every semaphore counter at zero, with each argument as launched and each result at what the calls' write-backs
  leave in it.
-/
module

public import proofs.«01_k».proof.Proof.Dats
public import proofs.«01_k».proof.Proof.Gen.KernelIdeal.Regions
public import Idealize.ShloMosaic.Lib.Pipeline.RegionArraysS
public import Idealize.ShloMosaic.Lib.Pipeline.RegionArraysTS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
def W0 : Vals (F := F) := fun c => V0 m c
/-- The buffers between the two calls. -/
def W1 : Vals (F := F) := fun c => Pipeline.afterRegion (dat0 (W0 m) c) (W0 m c)
/-- The buffers at the end. -/
def W2 : Vals (F := F) := fun c => Pipeline.afterRegion (dat1 (W1 m) c) (W1 m c)

section Records

variable (A B : Vals (F := F))

/-- The calls' admissible tables: the first has none, the second has the index table as it stands in `B`. -/
def adm : (p : Fin 2) → (pcfgs (F := F) p).Adm
  | ⟨0, _⟩ => cfg0.toPCfg_adm
  | ⟨1, _⟩ => adm1 B

/-- The proof data of both calls, the first entered from `A`, the second from `B`. -/
def pdats : (p : Fin 2) → (c : Dev nD) → Dat τ (Elt F) Unit ℕ (UR sig nD τ) ℕ (Pipeline.pin (pcfgs (F := F)) (adm B) p) c
  | ⟨0, _⟩ => fun c => dat0 A c
  | ⟨1, _⟩ => fun c => dat1 B c

/-- The levels of the semaphores: one index on each TensorCore cell. -/
def Lev : GSem nD τ sig → Finset Unit := fun g => if g.1.2 = .tc then {()} else ∅
/-- Every level is zero. -/
def lev0 : GSem nD τ sig → Unit → ℕ := fun _ _ => 0

/-- Each call's operations lie at its own level. -/
theorem cut (p : Fin 2) : Pipeline.LevelCut (pcfgs (F := F)) (adm B) () (Lev) lev0 p (fun _ : Dev nD => 0) (fun _ => 0) where
  hι c w s := by unfold Lev; rw [if_pos rfl]; exact Finset.mem_singleton_self _
  hιb _ _ _ := Nat.le_refl _
  hD c g i h := absurd h (Nat.lt_irrefl 0)

/-- What a core holds beside its buffers between the calls: its generator register and that it owes nothing. -/
def Rest (c : Dev nD) : sProp 𝕄 :=
  iprop((∃ Wd, owes (c : Thread nD τ) (0 : CellTallies nD τ sig Unit) Wd) ∗ (∃ r, prngReg c r) ∗ emp)

/-- The first call's record: entered with the buffers at `A`. -/
def reg0 : RegionSeg (pcfgs (F := F)) (adm B) (pdats A B) () defs₀ Variants.none Lev lev0 0 :=
  RegionSeg.ofHeldIn (pcfgs (F := F)) (adm B) (pdats A B) () defs₀ Variants.none Lev lev0 0 (fun _ => 0) (Pipeline.ucRefs τ sig)
    (fun c => iprop(∃ r, prngReg c r)) (fun c => iprop(∃ r, prngReg c r)) launch0 rfl
    (fun c => (obligation0 A c).loose) (fun _ _ => rfl) (fun _ => rfl)
    (fun c => (dat0 A c).share_full fun _ => rfl) (fun _ => .rfl) (fun _ => .rfl) (fun _ => 0) (cut B 0) (fun _ => iprop(emp))
    A (fun c w => dat0_A A c w)

/-- The second call's invariant holds at its entry. -/
theorem enter1 (c : Dev nD) : iprop(iprop(Pipeline.scopedRest (Ix := Unit) (Name := ℕ) (U := UR sig nD τ) (Lvl := ℕ) (Val := Elt F) spec1 c ∗ ∃ r, prngReg c r)
    ∗ tblHeld B c) ⊢ (dat1 B c).Φ 0 := by
  dsimp only [dat1]; exact .rfl
/-- The second call's invariant at its end gives back what it was entered with. -/
theorem leave1 (c : Dev nD) : (dat1 B c).Φ (Fin.last (cfgM B).N) ⊢
    iprop(iprop(Pipeline.scopedRest (Ix := Unit) (Name := ℕ) (U := UR sig nD τ) (Lvl := ℕ) (Val := Elt F) spec1 c ∗ ∃ r, prngReg c r)
    ∗ tblHeld B c) := by
  dsimp only [dat1]; exact .rfl

/-- The second call's record: entered with the buffers at `B`. -/
def reg1 (hT : TableOk B) : RegionSeg (pcfgs (F := F)) (adm B) (pdats A B) () defs₀ Variants.none Lev lev0 1 :=
  RegionSeg.ofHeldInT (pcfgs (F := F)) (adm B) (pdats A B) () defs₀ Variants.none Lev lev0 1 (fun _ => 0) (Pipeline.ucRefs τ sig)
    (fun c => iprop(∃ r, prngReg c r)) (fun c => iprop(∃ r, prngReg c r)) launch1
    (fun c => (obligation1 B hT c).loose) (fun _ _ => rfl) (fun _ => rfl)
    (fun c => (dat1 B c).share_full fun _ => rfl) (enter1 B) (leave1 B) (fun _ => 0) (cut B 1) (fun _ => iprop(emp))
    B (fun c w => dat1_A B c w) (fun c k => tbl_eq B c k)

/-- The first call's arrays are among the host's. -/
theorem arrs0 : Pipeline.arrRefs (τ := τ) spec0 ⊆ Pipeline.ucRefs τ sig := Pipeline.arrRefs_sub_ucRefs _ (by decide)
/-- The second call's arrays are among the host's. -/
theorem arrs1 : Pipeline.arrRefs (τ := τ) spec1 ⊆ Pipeline.ucRefs τ sig := Pipeline.arrRefs_sub_ucRefs _ (by decide)
/-- The second call's table is among the host's arrays. -/
theorem tbls1 : Pipeline.tblRefs (τ := τ) pre1 ⊆ Pipeline.ucRefs τ sig := Pipeline.tblRefs_sub_ucRefs _ (by decide)

/-- What the first call leaves, as its result written over the valuation. -/
theorem after0_eq (c : Dev nD) (V : Valuation τ sig (Elt F)) :
    Pipeline.afterRegion (pdats A B 0 c) V = Pipeline.afterRegion (dat0 A c) V := rfl
/-- What the second call leaves, as its two results written over the valuation. -/
theorem after1_eq (c : Dev nD) (V : Valuation τ sig (Elt F)) :
    Pipeline.afterRegion (pdats A B 1 c) V = Pipeline.afterRegion (dat1 B c) V := rfl

/-- What the host holds at the start is what the first call asks for. -/
theorem pre0_link (c : Dev nD) : iprop(StableHlo.held (c : Thread nD τ) (Pipeline.ucRefs τ sig) (A c) ∗ Rest c) ⊢ (reg0 A B).pre c := by
  unfold reg0 Rest
  exact RegionSeg.ofHeldIn_pre (pcs := pcfgs (F := F)) (a := adm B) (pdats := pdats A B) (p := 0) (W := A) (D := fun _ => 0)
    (X := fun c => iprop(∃ r, prngReg c r)) (Y := fun c => iprop(∃ r, prngReg c r)) (R := fun _ => iprop(emp)) arrs0 c
/-- What the first call leaves is what the host goes on with. -/
theorem post0_link (c : Dev nD) : (reg0 A B).post c
    ⊢ iprop(StableHlo.held (c : Thread nD τ) (Pipeline.ucRefs τ sig) (Pipeline.afterRegion (dat0 A c) (A c)) ∗ Rest c) := by
  unfold reg0 Rest
  rw [← after0_eq A B]
  exact RegionSeg.ofHeldIn_post (pcs := pcfgs (F := F)) (a := adm B) (pdats := pdats A B) (p := 0) (W := A) arrs0 c
/-- What the host holds after the first call is what the second call asks for. -/
theorem pre1_link (hT : TableOk B) (c : Dev nD) :
    iprop(StableHlo.held (c : Thread nD τ) (Pipeline.ucRefs τ sig) (B c) ∗ Rest c) ⊢ (reg1 A B hT).pre c := by
  unfold reg1 Rest
  exact RegionSeg.ofHeldInT_pre (pcs := pcfgs (F := F)) (a := adm B) (pdats := pdats A B) (p := 1) (W := B) (D := fun _ => 0)
    (X := fun c => iprop(∃ r, prngReg c r)) (Y := fun c => iprop(∃ r, prngReg c r)) (R := fun _ => iprop(emp)) arrs1 tbls1 c
/-- What the second call leaves is what the host ends with. -/
theorem post1_link (hT : TableOk B) (c : Dev nD) : (reg1 A B hT).post c
    ⊢ iprop(StableHlo.held (c : Thread nD τ) (Pipeline.ucRefs τ sig) (Pipeline.afterRegion (dat1 B c) (B c)) ∗ Rest c) := by
  unfold reg1 Rest
  rw [← after1_eq A B]
  exact RegionSeg.ofHeldInT_post (pcs := pcfgs (F := F)) (a := adm B) (pdats := pdats A B) (p := 1) (W := B) arrs1 tbls1 c

/-- The program's two calls as the list of its segments. -/
abbrev segl (hT : TableOk B) : List (Seg (pcfgs (F := F)) (adm B) (pdats A B) () defs₀ Variants.none Lev lev0) :=
  [.region (reg0 A B), .region (reg1 A B hT)]

end Records

set_option backward.isDefEq.respectTransparency.types false in
/-- THE RUN: it ends with every buffer that outlives the calls at `W2` and every semaphore counter at zero. -/
theorem run (hT : TableOk (W1 m)) :
    θ_run defs (onTc (τ := τ) (main (F := F))) ⟨m, fun _ => 0, ρ⟩ (fun r =>
      (∀ (c : Dev nD), ∀ b ∈ Pipeline.ucRefs τ sig, r.2.mem ((c : Thread nD τ).1, b) = W2 m c b) ∧ r.2.sem = fun _ => 0) := by
  refine Pipeline.θ_run_regions_kit_dev_sems (pcfgs (F := F)) (adm (W1 m)) (pdats (W0 m) (W1 m)) () (cellOf_inj (adm (W1 m))) emb₁ defs₀ Variants.none Lev lev0 m ρ main
    (fun _ => segl (W0 m) (W1 m) hT)
    (fun c Q => by
      rewrite [main_chain c, Seg.run_eq_chain,
        show (segl (W0 m) (W1 m) hT).map Seg.prog = [
          Prog.lift (.customCall (Pipeline.entry 0) ()),
          Prog.lift (.customCall (Pipeline.entry 1) ()) ] from rfl]
      dsimp (config := { failIfUnchanged := false }) only
      exact .rfl)
    (fun c => by simp only [segl, Seg.pipes_host, Seg.pipes_region, Seg.pipes_nil]; decide) 0
    (fun g hg => if_neg hg)
    (G := fun _ => iprop(emp))
    (u₀ := initOf (Pipeline.cells (Pipeline.pin (pcfgs (F := F)) (adm (W1 m))) (cellOf_inj (adm (W1 m)))) (Pipeline.launchToks (Pipeline.pin (pcfgs (F := F)) (adm (W1 m))) (cellOf_inj (adm (W1 m)))))
    (hu₀ := by
      iintro Hu; imodintro
      isplitl [Hu]
      · iapply (show (ownU _ : sProp 𝕄) ⊢ BI.own (emb₁ (initOf (Pipeline.cells (Pipeline.pin (pcfgs (F := F)) (adm (W1 m))) (cellOf_inj (adm (W1 m)))) (Pipeline.launchToks (Pipeline.pin (pcfgs (F := F)) (adm (W1 m))) (cellOf_inj (adm (W1 m)))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W2 m c))
    (hch := fun c => ⟨pre0_link (W0 m) (W1 m) c, (post0_link (W0 m) (W1 m) c).trans (pre1_link (W0 m) (W1 m) hT c), (post1_link (W0 m) (W1 m) hT c).trans (sep_mono .rfl (by
      unfold Rest; iintro ⟨HO, -, -⟩; iexact HO))⟩)
    (hinit := by
      refine Pipeline.initEach Lev lev0 fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold Rest
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c : Thread nD τ).1, b) = W2 m c b)
    (hfin := fun c s' => by
      unfold StableHlo.held
      iintro ⟨Hh, HSI⟩
      ihave Hr := (pointsTo_read_all (Pipeline.ucRefs τ sig) (fun b => ((c : Thread nD τ).1, b)) (W2 m c) s') $$ [Hh HSI]
      · isplitl [Hh] <;> iassumption
      imodintro; iexact Hr)
    (hQ := fun _ h hz => ⟨h, funext fun g => hz g (.inr (regions_no_unscoped g.2))⟩)

/-- A buffer the first call does not write stands between the calls as at launch. -/
theorem W1_keeps (c : Dev nD) (r : Ref sig .tc) (h : ∀ w : Fin 2, Pipeline.arrRef spec0 w = r → (spec0 w).isOut = false) :
    W1 m c (Proc.devRef .tc r) = m ((c : Thread nD τ).loc r) :=
  Pipeline.afterRegion_keeps (dat0 (W0 m) c) (W0 m c) winFacts0.arr_inj (dat0_A (W0 m) c) r h

/-- A buffer the second call does not write stands at the end as before it. -/
theorem W2_keeps (c : Dev nD) (r : Ref sig .tc) (h : ∀ w : Fin 3, Pipeline.arrRef spec1 w = r → (spec1 w).isOut = false) :
    W2 m c (Proc.devRef .tc r) = W1 m c (Proc.devRef .tc r) :=
  Pipeline.afterRegion_keeps (dat1 (W1 m) c) (W1 m c) winFacts1.arr_inj (dat1_A (W1 m) c) r h

/-- The table as launched holds row numbers. -/
def TblOk : Prop := ∀ j : Fin 9, ((m (((0 : Dev nD) : Thread nD τ).loc main_arg2) : Vec F S9 .i32) (ValueIdx.ix1 j) : BitVec 32).toNat < 2048

/-- The table at the second call is the third argument as launched. -/
theorem tbl_launch : (tbl (W1 m) 0 : Vec F S9 .i32) = (m (((0 : Dev nD) : Thread nD τ).loc main_arg2) : Vec F S9 .i32) :=
  W1_keeps m 0 main_arg2 (by decide)

/-- A table of row numbers at launch is one at the second call. -/
theorem tableOk (h : TblOk m) : TableOk (W1 m) := fun j => by rw [tbl_launch]; exact h j

/-- An array outside every scope is among the host's. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- What the program leaves: its results as the calls' write-backs make them, its arguments as launched, every counter zero. -/
theorem run_post (h : TblOk m) :
    θ_run defs (onTc (τ := τ) (main (F := F))) ⟨m, fun _ => 0, ρ⟩ (fun r => (∀ c : Dev nD,
      r.2.mem ((c.tc : Thread nD τ).loc main_v0) = (dat0 (W0 m) c).arrAt 1 cfg0.N
      ∧ r.2.mem ((c.tc : Thread nD τ).loc main_v1_0) = (dat1 (W1 m) c).arrAt 1 (cfgM (W1 m)).N
      ∧ r.2.mem ((c.tc : Thread nD τ).loc main_v1_1) = (dat1 (W1 m) c).arrAt 2 (cfgM (W1 m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r hr => ⟨fun c => ?_, hr.2⟩) (run m ρ (tableOk m h))
  have hb := hr.1 c
  refine ⟨?_, ?_, ?_, ?_, ?_, ?_, ?_⟩
  · exact (hb _ (mem_uc main_v0 (by decide))).trans ((W2_keeps m c main_v0 (by decide)).trans
      (Pipeline.afterRegion_arr (dat0 (W0 m) c) (W0 m c) winFacts0.arr_inj 1))
  · exact (hb _ (mem_uc main_v1_0 (by decide))).trans
      (Pipeline.afterRegion_arr (dat1 (W1 m) c) (W1 m c) winFacts1.arr_inj 1)
  · exact (hb _ (mem_uc main_v1_1 (by decide))).trans
      (Pipeline.afterRegion_arr (dat1 (W1 m) c) (W1 m c) winFacts1.arr_inj 2)
  · exact (hb _ (mem_uc main_arg0 (by decide))).trans ((W2_keeps m c main_arg0 (by decide)).trans (W1_keeps m c main_arg0 (by decide)))
  · exact (hb _ (mem_uc main_arg1 (by decide))).trans ((W2_keeps m c main_arg1 (by decide)).trans (W1_keeps m c main_arg1 (by decide)))
  · exact (hb _ (mem_uc main_arg2 (by decide))).trans ((W2_keeps m c main_arg2 (by decide)).trans (W1_keeps m c main_arg2 (by decide)))
  · exact (hb _ (mem_uc main_arg3 (by decide))).trans ((W2_keeps m c main_arg3 (by decide)).trans (W1_keeps m c main_arg3 (by decide)))

end Cert.KernelIdeal.Run

end
-- ==== Proof.Frames.lean ====
/-
  The frames: each program runs to its end, faults nowhere, leaves its arguments as they were and every semaphore
  counter at zero.
-/
module

public import proofs.«01_k».proof.Defs
public import proofs.«01_k».proof.Proof.Pre
public import proofs.«01_k».proof.Proof.Run
public import proofs.«01_k».proof.Proof.KRun
public import proofs.«01_k».proof.Proof.Gen.ReferenceIdeal.Run

@[expose] public section

set_option maxRecDepth 16384

noncomputable section

namespace Cert.Frames

open Idealize.ShloMosaic Idealize.SL.Sem

/-- The kernel as printed, under the first precondition: its index table holds row numbers. -/
theorem tblOk_kernel (m) (h : Cert.Pre_Kernel m) : Cert.Kernel.Run.TblOk m := fun j => Cert.Pre.in_range _ _ _ _ (h 0) j

/-- The idealized kernel under the first precondition: its index table holds row numbers. -/
theorem tblOk_ideal (m) (h : Cert.Pre_KernelIdeal m) : Cert.KernelIdeal.Run.TblOk m := fun j => Cert.Pre.in_range _ _ _ _ (h 0) j

/-- The idealized kernel under the second precondition: its index table holds row numbers. -/
theorem tblOk_finite (m) (h : Cert.Pre_KernelIdeal_finite m) : Cert.KernelIdeal.Run.TblOk m := fun j => Cert.Pre.finite_range _ _ _ _ (h 0) j

/-- The frame of the kernel as printed. -/
theorem frame_p : Cert.quiescent_Kernel := fun m ρ h =>
  (θ_run Cert.Kernel.defs _ _).mono (fun _ hr => ⟨fun c => (hr.1 c).2.2.2, hr.2⟩) (Cert.Kernel.Run.run_post m ρ (tblOk_kernel m h))

/-- The frame of the idealized kernel. -/
theorem frame_pi : Cert.quiescent_KernelIdeal := fun m ρ h =>
  (θ_run Cert.KernelIdeal.defs _ _).mono (fun _ hr => ⟨fun c => (hr.1 c).2.2.2, hr.2⟩) (Cert.KernelIdeal.Run.run_post m ρ (tblOk_ideal m h))

/-- The frame of the idealized kernel under the second precondition. -/
theorem frame_pi_finite : Cert.quiescent_KernelIdeal_pre_finite := fun m ρ h =>
  (θ_run Cert.KernelIdeal.defs _ _).mono (fun _ hr => ⟨fun c => (hr.1 c).2.2.2, hr.2⟩) (Cert.KernelIdeal.Run.run_post m ρ (tblOk_finite m h))

/-- The frame of the reference, which declares no semaphore. -/
theorem frame_ri : Cert.quiescent_ReferenceIdeal := fun m ρ _ =>
  (θ_run Cert.ReferenceIdeal.defs _ _).mono (fun r hr => ⟨fun c => (hr c).2.2.2, sem_eq_zero_of_no_sems (by decide) r.2⟩)
    (Cert.ReferenceIdeal.Value.run m ρ)

/-- The frame of the reference under the second precondition. -/
theorem frame_ri_finite : Cert.quiescent_ReferenceIdeal_pre_finite := fun m ρ _ =>
  (θ_run Cert.ReferenceIdeal.defs _ _).mono (fun r hr => ⟨fun c => (hr c).2.2.2, sem_eq_zero_of_no_sems (by decide) r.2⟩)
    (Cert.ReferenceIdeal.Value.run m ρ)

end Cert.Frames

end
-- ==== Proof.Col.lean ====
/-
  The mathematics of one column of 2048 real numbers: its mean and standard deviation, the mask of its outliers, the
  statistics of the rows that the mask keeps, the clipping between the two cuts, and the normalized column. The one-pass
  forms of the variances are the two-pass forms, and the clipping with one logarithm is the clipping with two.
-/
module

public import Idealize.ShloMosaic.PureOps.Ideal.Laws

@[expose] public section

noncomputable section

namespace Cert.Col

open scoped BigOperators

/-- A column: 2048 real numbers. -/
abbrev Column := Fin 2048 → ℝ

/-- The small number added to a standard deviation before a division by it. -/
def eps : ℝ := 8796093 * (2 : ℝ) ^ (-43 : ℤ)

/-- The constant added to a deviation is positive. -/
theorem eps_pos : 0 < eps := by unfold eps; positivity

/-- The mean. -/
def mean (c : Column) : ℝ := (∑ r, c r) / 2048

/-- The variance, by the deviations from the mean. -/
def var (c : Column) : ℝ := (∑ r, (c r - mean c) * (c r - mean c)) / 2048

/-- The standard deviation. -/
def std (c : Column) : ℝ := Real.sqrt (var c)

/-- A variance is not negative. -/
theorem var_nonneg (c : Column) : 0 ≤ var c :=
  div_nonneg (Finset.sum_nonneg fun r _ => mul_self_nonneg _) (by norm_num)

/-- A deviation is not negative. -/
theorem std_nonneg (c : Column) : 0 ≤ std c := Real.sqrt_nonneg _

/-- The mean square minus the square of the mean is the variance. -/
theorem one_pass (c : Column) : (∑ r, c r * c r) / 2048 - mean c * mean c = var c := by
  unfold var
  have h : ∑ r, (c r - mean c) * (c r - mean c) = (∑ r, c r * c r) - 2 * mean c * (∑ r, c r) + 2048 * (mean c * mean c) := by
    have : ∀ r, (c r - mean c) * (c r - mean c) = c r * c r - 2 * mean c * c r + mean c * mean c := fun r => by ring
    simp only [this, Finset.sum_add_distrib, Finset.sum_sub_distrib, ← Finset.mul_sum, Finset.sum_const, Finset.card_univ, Fintype.card_fin,
      nsmul_eq_mul]
    push_cast
    ring
  have hs : ∑ r, c r = 2048 * mean c := by unfold mean; ring
  rw [h, hs]
  ring

/-- Row `r` is an outlier: further than four standard deviations from the mean. -/
def Out (c : Column) (r : Fin 2048) : Prop := mean c + std c * 4 < c r ∨ c r < mean c - std c * 4

open Classical in
/-- What `a` is on the rows that the mask keeps, and zero on the outliers. -/
def keep (c : Column) (a : Column) : Column := fun r => if Out c r then 0 else a r

/-- The number of rows kept. -/
def num (c : Column) : ℝ := ∑ r, keep c (fun _ => 1) r

/-- The number of rows kept, at least one. -/
def cnt (c : Column) : ℝ := max (num c) 1

/-- The guarded count is positive. -/
theorem cnt_pos (c : Column) : 0 < cnt c := lt_of_lt_of_le one_pos (le_max_right _ _)

/-- The guarded count is not zero. -/
theorem cnt_ne (c : Column) : cnt c ≠ 0 := (cnt_pos c).ne'

/-- The mean of the rows kept. -/
def kmean (c : Column) : ℝ := (∑ r, keep c c r) / cnt c

/-- The variance of the rows kept, by the deviations from their mean. -/
def kvar (c : Column) : ℝ := (∑ r, keep c (fun r => c r - kmean c) r * keep c (fun r => c r - kmean c) r) / cnt c

/-- The standard deviation of the rows kept. -/
def kstd (c : Column) : ℝ := Real.sqrt (kvar c)

/-- The variance of the kept entries is not negative. -/
theorem kvar_nonneg (c : Column) : 0 ≤ kvar c :=
  div_nonneg (Finset.sum_nonneg fun r _ => mul_self_nonneg _) (cnt_pos c).le

/-- The deviation of the kept entries is not negative. -/
theorem kstd_nonneg (c : Column) : 0 ≤ kstd c := Real.sqrt_nonneg _

open Classical in
/-- The number of rows kept is a count. -/
theorem num_card (c : Column) : num c = ((Finset.univ.filter fun r => ¬ Out c r).card : ℝ) := by
  unfold num keep
  rw [Finset.card_filter, Nat.cast_sum]
  exact Finset.sum_congr rfl fun r _ => by split_ifs <;> simp_all

/-- Where any row is kept, the number of rows kept is the divisor; where none is, the kept mean is zero. -/
theorem kept_cases (c : Column) : num c = cnt c ∨ kmean c = 0 := by
  classical
  rcases Nat.eq_zero_or_pos (Finset.univ.filter fun r => ¬ Out c r).card with h | h
  · right
    have h' : ∀ r, Out c r := fun r => by
      by_contra hr
      exact absurd (Finset.card_eq_zero.1 h) (Finset.ne_empty_of_mem (Finset.mem_filter.2 ⟨Finset.mem_univ r, hr⟩))
    unfold kmean keep
    simp [h']
  · left
    unfold cnt
    rw [max_eq_left]
    rw [num_card]
    exact_mod_cast h

/-- The kept rows' mean square minus the square of their mean is their variance. -/
theorem one_pass_kept (c : Column) : (∑ r, keep c c r * keep c c r) / cnt c - kmean c * kmean c = kvar c := by
  unfold kvar
  have h : ∑ r, keep c (fun r => c r - kmean c) r * keep c (fun r => c r - kmean c) r
      = (∑ r, keep c c r * keep c c r) - 2 * kmean c * (∑ r, keep c c r) + kmean c * kmean c * num c := by
    unfold num
    rw [Finset.mul_sum, Finset.mul_sum, ← Finset.sum_sub_distrib, ← Finset.sum_add_distrib]
    refine Finset.sum_congr rfl fun r _ => ?_
    unfold keep
    split_ifs <;> ring
  have hs : ∑ r, keep c c r = cnt c * kmean c := by unfold kmean; rw [mul_div_cancel₀ _ (cnt_ne c)]
  rw [h, hs, add_div, sub_div]
  rcases kept_cases c with e | e
  · rw [e, mul_div_assoc _ (cnt c), div_self (cnt_ne c)]
    have : 2 * kmean c * (cnt c * kmean c) / cnt c = 2 * kmean c * kmean c := by field_simp [cnt_ne c]
    rw [this]; ring
  · rw [e]; ring

/-- The logarithm of one plus the absolute value. -/
def lg (a : ℝ) : ℝ := Real.log (1 + |a|)

/-- The logarithm of one plus a magnitude is not negative. -/
theorem lg_nonneg (a : ℝ) : 0 ≤ lg a := Real.log_nonneg (by have := abs_nonneg a; linarith)

/-- The lower cut. -/
def lower (c : Column) : ℝ := kmean c - kstd c * 4

/-- The upper cut. -/
def upper (c : Column) : ℝ := kmean c + kstd c * 4

/-- The second lower bound is at most the second upper bound. -/
theorem lower_le_upper (c : Column) : lower c ≤ upper c := by
  have := kstd_nonneg c
  unfold lower upper
  linarith

/-- A row clipped softly between the cuts. -/
def clip (c : Column) : Column := fun r => min (max (lower c - lg (c r)) (c r)) (upper c + lg (c r))

/-- The clipping in two steps, the second with the logarithm of what the first left. -/
theorem clip_two_steps (c : Column) (r : Fin 2048) :
    min (lg (max (-lg (c r) + lower c) (c r)) + upper c) (max (-lg (c r) + lower c) (c r)) = clip c r := by
  unfold clip
  have hl := lower_le_upper c
  have h0 := lg_nonneg (c r)
  have e : -lg (c r) + lower c = lower c - lg (c r) := by ring
  rw [e]
  rcases le_total (lower c - lg (c r)) (c r) with h | h
  · rw [max_eq_right h, min_comm, add_comm]
  · rw [max_eq_left h, min_eq_right, min_eq_left]
    · linarith
    · have := lg_nonneg (lower c - lg (c r)); linarith

/-- A column less its mean, over its standard deviation. -/
def normed (c : Column) : Column := fun r => (c r - mean c) / (std c + eps)

/-- A deviation with the constant added is positive. -/
theorem std_eps_pos (c : Column) : 0 < std c + eps := add_pos_of_nonneg_of_pos (std_nonneg c) eps_pos

end Cert.Col

end
-- ==== Proof.RealOps.lean ====
/-
  The operations of the extended reals at real numbers, the constants of the programs as real numbers, and the sums of
  columns: what turns an expression over extended reals into one over the reals.
-/
module

public import proofs.«01_k».proof.Proof.Col
public import Idealize.ShloMosaic.PureOps.Ideal
public import Idealize.ShloMosaic.PureOps.Ideal.Laws

@[expose] public section

noncomputable section

namespace Cert.RealOps

open Idealize.ShloMosaic
open scoped BigOperators

/-- A quotient of reals with a divisor that is not zero. -/
theorem div_real (a b : ℝ) (h : b ≠ 0) : Ideal.div (a : EReal) (b : EReal) = ((a / b : ℝ) : EReal) := by
  rw [Ideal.div_coe h, ← EReal.coe_mul, mul_one_div]

/-- A square root of a real that is not negative. -/
theorem sqrt_real (a : ℝ) (h : 0 ≤ a) : Ideal.sqrt (a : EReal) = (Real.sqrt a : EReal) := by
  rw [Ideal.sqrt_coe, if_neg (not_lt.2 h)]

/-- A logarithm of a positive real. -/
theorem log_real (a : ℝ) (h : 0 < a) : Ideal.log (a : EReal) = (Real.log a : EReal) := by
  rw [Ideal.log_coe, if_neg (not_le.2 h)]

/-- The greater of two reals. -/
theorem max_real (a b : ℝ) : max (a : EReal) (b : EReal) = ((max a b : ℝ) : EReal) :=
  (EReal.coe_strictMono.monotone.map_max).symm

/-- The lesser of two reals. -/
theorem min_real (a b : ℝ) : min (a : EReal) (b : EReal) = ((min a b : ℝ) : EReal) :=
  (EReal.coe_strictMono.monotone.map_min).symm

/-- The absolute value of a real. -/
theorem abs_real (a : ℝ) : max (a : EReal) (-(a : EReal)) = ((|a| : ℝ) : EReal) := by
  rw [← EReal.coe_neg, max_real]; rfl

/-- A sum of reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Whether one real is above another, as a bit. -/
theorem ogt_real (a b : ℝ) : Ideal.cmp .ogt (a : EReal) (b : EReal) = BitVec.ofBool (decide (b < a)) := by
  simp [Ideal.cmp, EReal.coe_lt_coe_iff]

/-- Whether one real is below another, as a bit. -/
theorem olt_real (a b : ℝ) : Ideal.cmp .olt (a : EReal) (b : EReal) = BitVec.ofBool (decide (a < b)) := by
  simp [Ideal.cmp, EReal.coe_lt_coe_iff]

/-- The word of 0. -/
theorem bits_zero : Ideal.ofBits .f32 0x00000000#32 = ((0 : ℝ) : EReal) := by simp [Ideal.ofBits, Ideal.ieee]
/-- The word of 1. -/
theorem bits_one : Ideal.ofBits .f32 0x3F800000#32 = ((1 : ℝ) : EReal) := by
  simp [Ideal.ofBits, Ideal.ieee]; norm_cast; norm_num
/-- The word of 4. -/
theorem bits_four : Ideal.ofBits .f32 0x40800000#32 = ((4 : ℝ) : EReal) := by
  simp [Ideal.ofBits, Ideal.ieee]; norm_cast; norm_num
/-- The word of 2048. -/
theorem bits_rows : Ideal.ofBits .f32 0x45000000#32 = ((2048 : ℝ) : EReal) := by
  simp [Ideal.ofBits, Ideal.ieee]; norm_cast; norm_num
/-- The word of the constant added to a deviation. -/
theorem bits_eps : Ideal.ofBits .f32 0x358637BD#32 = ((Col.eps : ℝ) : EReal) := by
  simp [Ideal.ofBits, Ideal.ieee, Col.eps]

/-- The mean of a column of reals. -/
theorem mean_real (c : Col.Column) : Ideal.div (∑ r, (c r : EReal)) ((2048 : ℝ) : EReal) = (Col.mean c : EReal) := by
  rw [sum_real, div_real _ _ (by norm_num)]; rfl

/-- The standard deviation of a column of reals, off its sum and its sum of squares. -/
theorem std_one_pass (c : Col.Column) :
    Ideal.sqrt (max (Ideal.div (∑ r, (c r : EReal) * (c r : EReal)) ((2048 : ℝ) : EReal)
      - Ideal.div (∑ r, (c r : EReal)) ((2048 : ℝ) : EReal) * Ideal.div (∑ r, (c r : EReal)) ((2048 : ℝ) : EReal)) ((0 : ℝ) : EReal))
    = (Col.std c : EReal) := by
  rw [mean_real]
  simp only [← EReal.coe_mul, sum_real]
  rw [div_real _ _ (by norm_num), ← EReal.coe_sub, Col.one_pass, max_real, max_eq_left (Col.var_nonneg c), sqrt_real _ (Col.var_nonneg c)]
  rfl

/-- The standard deviation of a column of reals, off the squares of its deviations. -/
theorem std_two_pass (c : Col.Column) :
    Ideal.sqrt (Ideal.div (∑ r, ((c r : EReal) - (Col.mean c : EReal)) * ((c r : EReal) - (Col.mean c : EReal))) ((2048 : ℝ) : EReal))
    = (Col.std c : EReal) := by
  simp only [← EReal.coe_sub, ← EReal.coe_mul, sum_real]
  rw [div_real _ _ (by norm_num)]
  exact sqrt_real _ (Col.var_nonneg c)

/-- The normalized column, as a quotient of extended reals. -/
theorem normed_real (c : Col.Column) (r : Fin 2048) :
    Ideal.div ((c r : EReal) - (Col.mean c : EReal)) ((Col.std c : EReal) + (Col.eps : EReal)) = (Col.normed c r : EReal) := by
  rw [← EReal.coe_sub, ← EReal.coe_add, div_real _ _ (Col.std_eps_pos c).ne']
  rfl

end Cert.RealOps

end
-- ==== Proof.XVal.lean ====
/-
  The values of the first kernel's body, at the ideal numbers, on a block of reals: each column of what it leaves is the
  column clipped softly between the cuts and normalized.
-/
module

public import proofs.«01_k».proof.Proof.RealOps
public import proofs.«01_k».proof.Proof.XBody
public import Idealize.ShloMosaic.Lib.Pointwise
public import Idealize.ShloMosaic.Lib.IdealHost

@[expose] public section

noncomputable section

namespace Cert.XVal

open Cert.KernelIdeal Cert.KernelIdeal.Gen Cert.RealOps
open Idealize.ShloMosaic
open scoped BigOperators

/-- Row `i` of the `k`-th run of eight rows. -/
def row (k : ℕ) (i : Fin 8) : Fin 2048 := ⟨(8 * k + i.val) % 2048, Nat.mod_lt _ (by decide)⟩

/-- A sum over eight sublanes, each of which summed every eighth row, is the sum over all rows. -/
theorem reblock (f : Fin 2048 → ℝ) : ∑ i : Fin 8, ∑ k ∈ Finset.range 256, f (row k i) = ∑ r, f r := by
  rw [Finset.sum_comm, Finset.sum_range (fun k => ∑ i : Fin 8, f (row k i)), ← Fintype.sum_prod_type']
  refine Fintype.sum_equiv (finProdFinEquiv (m := 256) (n := 8)) _ _ fun p => congrArg f (Fin.ext ?_)
  obtain ⟨k, i⟩ := p
  show (8 * k.val + i.val) % 2048 = i.val + 8 * k.val
  have := k.isLt
  have := i.isLt
  omega

section Chunks

variable (x : Vec Ideal S2048x8x128 .f32) (s : Fin 8) (l : Fin 128) (c : Col.Column)

/-- An entry of a run of eight rows. -/
theorem chunk_at (hx : ∀ r, x (ix3 r s l) = ((c r : ℝ) : EReal)) (k : ℕ) (i : Fin 8) : X.chunk x k (ix3 i s l) = ((c (row k i) : ℝ) : EReal) := by
  rw [← hx, ix3_eq_valueIdx]
  rfl

/-- The first loop's accumulators hold the sum and the sum of squares of every eighth row so far. -/
theorem s1_at (hx : ∀ r, x (ix3 r s l) = ((c r : ℝ) : EReal)) (i : Fin 8) (n : ℕ) :
    (X.s1 x n).1 (ix3 i s l) = ((∑ k ∈ Finset.range n, c (row k i) : ℝ) : EReal)
      ∧ (X.s1 x n).2 (ix3 i s l) = ((∑ k ∈ Finset.range n, c (row k i) * c (row k i) : ℝ) : EReal) := by
  induction n with
  | zero => constructor <;> (show k0_pay5 (F := Ideal) (ix3 i s l) = _; unfold k0_pay5; pointwise; rw [Finset.sum_range_zero, EReal.coe_zero])
  | succ n ih =>
    constructor
    · show k0_pay6 _ _ _ = _
      unfold k0_pay6
      pointwise
      rw [ih.1, chunk_at x s l c hx, Finset.sum_range_succ, EReal.coe_add]
    · show k0_pay7 _ _ _ = _
      unfold k0_pay7
      pointwise
      rw [ih.2, chunk_at x s l c hx, Finset.sum_range_succ, EReal.coe_add, EReal.coe_mul]

/-- The first loop's sums, over the sublanes, are the sums over all rows. -/
theorem s1_sums (hx : ∀ r, x (ix3 r s l) = ((c r : ℝ) : EReal)) :
    ∑ i : Fin 8, (X.s1 x 256).1 (ix3 i s l) = ∑ r, ((c r : ℝ) : EReal)
      ∧ ∑ i : Fin 8, (X.s1 x 256).2 (ix3 i s l) = ∑ r, ((c r : ℝ) : EReal) * ((c r : ℝ) : EReal) := by
  constructor
  · rw [Finset.sum_congr rfl fun i _ => (s1_at x s l c hx i 256).1, sum_real, reblock (fun r => c r), sum_real]
  · rw [Finset.sum_congr rfl fun i _ => (s1_at x s l c hx i 256).2, sum_real, reblock (fun r => c r * c r)]
    simp only [← EReal.coe_mul, sum_real]

end Chunks

section Mask

variable (v w x : FVec Ideal S8x8x128 .f32) (s : Fin 8) (l : Fin 128) (c : Col.Column)

open Classical in
/-- The outlier bit of an entry, off the column's sum and its sum of squares. -/
theorem mask_at (hv : ∑ i : Fin 8, v (ix3 i s l) = ∑ r, ((c r : ℝ) : EReal))
    (hw : ∑ i : Fin 8, w (ix3 i s l) = ∑ r, ((c r : ℝ) : EReal) * ((c r : ℝ) : EReal))
    (r : Fin 2048) (i : Fin 8) (hx : x (ix3 i s l) = ((c r : ℝ) : EReal)) :
    k0_pay8 (F := Ideal) v w x (ix3 i s l) = BitVec.ofBool (decide (Col.Out c r)) := by
  have h := std_one_pass c
  rw [EReal.coe_zero] at h
  unfold k0_pay8
  pointwise
  rw [hv, hw, hx, bits_rows, h, mean_real, bits_four, ← EReal.coe_mul, ← EReal.coe_add, ← EReal.coe_sub]
  simp only [EReal.coe_lt_coe_iff]
  by_cases h1 : Col.mean c + Col.std c * 4 < c r <;> by_cases h2 : c r < Col.mean c - Col.std c * 4 <;> simp [Col.Out, h1, h2, IntOp.ori]

/-- An entry with zero in the place of an outlier. -/
theorem kept_at (hv : ∑ i : Fin 8, v (ix3 i s l) = ∑ r, ((c r : ℝ) : EReal))
    (hw : ∑ i : Fin 8, w (ix3 i s l) = ∑ r, ((c r : ℝ) : EReal) * ((c r : ℝ) : EReal))
    (r : Fin 2048) (i : Fin 8) (hx : x (ix3 i s l) = ((c r : ℝ) : EReal)) :
    k0_pay9 (F := Ideal) v w x (ix3 i s l) = ((Col.keep c c r : ℝ) : EReal) := by
  classical
  unfold k0_pay9
  pointwise
  rw [mask_at v w x s l c hv hw r i hx, hx]
  by_cases h : Col.Out c r <;> simp [Col.keep, h, Scalar.select]

/-- The second loop's accumulators after one more run of rows. -/
theorem second_step (a b d : FVec Ideal S8x8x128 .f32) (a' b' d' : ℝ) (hv : ∑ i : Fin 8, v (ix3 i s l) = ∑ r, ((c r : ℝ) : EReal))
    (hw : ∑ i : Fin 8, w (ix3 i s l) = ∑ r, ((c r : ℝ) : EReal) * ((c r : ℝ) : EReal))
    (r : Fin 2048) (i : Fin 8) (hx : x (ix3 i s l) = ((c r : ℝ) : EReal))
    (ha : a (ix3 i s l) = (a' : EReal)) (hb : b (ix3 i s l) = (b' : EReal)) (hd : d (ix3 i s l) = (d' : EReal)) :
    k0_pay10 (F := Ideal) v w a x (ix3 i s l) = ((a' + Col.keep c c r : ℝ) : EReal)
      ∧ k0_pay11 (F := Ideal) v w b x (ix3 i s l) = ((b' + Col.keep c c r * Col.keep c c r : ℝ) : EReal)
      ∧ k0_pay12 (F := Ideal) v w d x (ix3 i s l) = ((d' + Col.keep c (fun _ => 1) r : ℝ) : EReal) := by
  classical
  refine ⟨?_, ?_, ?_⟩
  · unfold k0_pay10
    pointwise
    rw [kept_at v w x s l c hv hw r i hx, ha, EReal.coe_add]
  · unfold k0_pay11
    pointwise
    rw [kept_at v w x s l c hv hw r i hx, hb, EReal.coe_add, EReal.coe_mul]
  · unfold k0_pay12
    pointwise
    rw [mask_at v w x s l c hv hw r i hx, hd, EReal.coe_add]
    by_cases h : Col.Out c r <;> simp [Col.keep, h, Scalar.select]

end Mask

section Second

variable (x : Vec Ideal S2048x8x128 .f32) (s : Fin 8) (l : Fin 128) (c : Col.Column)

/-- The second loop's accumulators hold the sum, the sum of squares and the number of the rows kept, of every eighth row so far. -/
theorem s2_at (hx : ∀ r, x (ix3 r s l) = ((c r : ℝ) : EReal)) (i : Fin 8) (n : ℕ) :
    (X.s2 x n).1 (ix3 i s l) = ((∑ k ∈ Finset.range n, Col.keep c c (row k i) : ℝ) : EReal)
      ∧ (X.s2 x n).2.1 (ix3 i s l) = ((∑ k ∈ Finset.range n, Col.keep c c (row k i) * Col.keep c c (row k i) : ℝ) : EReal)
      ∧ (X.s2 x n).2.2 (ix3 i s l) = ((∑ k ∈ Finset.range n, Col.keep c (fun _ => 1) (row k i) : ℝ) : EReal) := by
  induction n with
  | zero => refine ⟨?_, ?_, ?_⟩ <;> (show k0_pay5 (F := Ideal) (ix3 i s l) = _; unfold k0_pay5; pointwise; rw [Finset.sum_range_zero, EReal.coe_zero])
  | succ n ih =>
    simp only [Finset.sum_range_succ]
    exact second_step (X.s1 x 256).1 (X.s1 x 256).2 (X.chunk x n) s l c _ _ _ _ _ _ (s1_sums x s l c hx).1 (s1_sums x s l c hx).2 (row n i) i
      (chunk_at x s l c hx n i) ih.1 ih.2.1 ih.2.2

/-- The second loop's sums, over the sublanes, are the sums over all rows. -/
theorem s2_sums (hx : ∀ r, x (ix3 r s l) = ((c r : ℝ) : EReal)) :
    ∑ i : Fin 8, (X.s2 x 256).1 (ix3 i s l) = ((∑ r, Col.keep c c r : ℝ) : EReal)
      ∧ ∑ i : Fin 8, (X.s2 x 256).2.1 (ix3 i s l) = ((∑ r, Col.keep c c r * Col.keep c c r : ℝ) : EReal)
      ∧ ∑ i : Fin 8, (X.s2 x 256).2.2 (ix3 i s l) = ((Col.num c : ℝ) : EReal) := by
  refine ⟨?_, ?_, ?_⟩
  · rw [Finset.sum_congr rfl fun i _ => (s2_at x s l c hx i 256).1, sum_real, reblock (fun r => Col.keep c c r)]
  · rw [Finset.sum_congr rfl fun i _ => (s2_at x s l c hx i 256).2.1, sum_real, reblock (fun r => Col.keep c c r * Col.keep c c r)]
  · rw [Finset.sum_congr rfl fun i _ => (s2_at x s l c hx i 256).2.2, sum_real, reblock (fun r => Col.keep c (fun _ => 1) r)]
    rfl

end Second

section Cuts

variable (a b d : FVec Ideal S8x8x128 .f32) (s : Fin 8) (l : Fin 128) (c : Col.Column)

/-- The divisor of the second statistics. -/
theorem cnt_at (hd : ∑ i : Fin 8, d (ix3 i s l) = ((Col.num c : ℝ) : EReal)) : k0_pay13 (F := Ideal) d (ix3 0 s l) = ((Col.cnt c : ℝ) : EReal) := by
  unfold k0_pay13
  pointwise
  rw [hd, ← EReal.coe_one, max_real]
  rfl

/-- The mean of the rows kept. -/
theorem kmean_at (ha : ∑ i : Fin 8, a (ix3 i s l) = ((∑ r, Col.keep c c r : ℝ) : EReal))
    (hd : ∑ i : Fin 8, d (ix3 i s l) = ((Col.num c : ℝ) : EReal)) : k0_pay14 (F := Ideal) a d (ix3 0 s l) = ((Col.kmean c : ℝ) : EReal) := by
  unfold k0_pay14
  pointwise
  rw [cnt_at d s l c hd, ha, div_real _ _ (Col.cnt_ne c)]
  rfl

/-- The standard deviation of the rows kept. -/
theorem kstd_at (ha : ∑ i : Fin 8, a (ix3 i s l) = ((∑ r, Col.keep c c r : ℝ) : EReal))
    (hb : ∑ i : Fin 8, b (ix3 i s l) = ((∑ r, Col.keep c c r * Col.keep c c r : ℝ) : EReal))
    (hd : ∑ i : Fin 8, d (ix3 i s l) = ((Col.num c : ℝ) : EReal)) : k0_pay15 (F := Ideal) a b d (ix3 0 s l) = ((Col.kstd c : ℝ) : EReal) := by
  unfold k0_pay15
  pointwise
  rw [cnt_at d s l c hd, kmean_at a d s l c ha hd, hb, div_real _ _ (Col.cnt_ne c), ← EReal.coe_mul, ← EReal.coe_sub, Col.one_pass_kept,
    ← EReal.coe_zero, max_real, max_eq_left (Col.kvar_nonneg c), sqrt_real _ (Col.kvar_nonneg c)]
  rfl

/-- One plus the absolute value, under the logarithm. -/
theorem lg_real (a : ℝ) : Ideal.log1p (max (a : EReal) (-(a : EReal))) = ((Col.lg a : ℝ) : EReal) := by
  rw [abs_real]
  unfold Ideal.log1p
  rw [← EReal.coe_one, ← EReal.coe_add, log_real _ (by have := abs_nonneg a; linarith)]
  rfl

/-- The soft clipping of an entry. -/
theorem clip_at (m t : FVec Ideal S1x8x128 .f32) (x : FVec Ideal S8x8x128 .f32) (hm : m (ix3 0 s l) = ((Col.kmean c : ℝ) : EReal))
    (ht : t (ix3 0 s l) = ((Col.kstd c : ℝ) : EReal)) (r : Fin 2048) (i : Fin 8) (hx : x (ix3 i s l) = ((c r : ℝ) : EReal)) :
    k0_pay1 (F := Ideal) m t k0_pay16 x (ix3 i s l) = ((Col.clip c r : ℝ) : EReal) := by
  have h16 : k0_pay16 (F := Ideal) (ix3 0 s l) = ((4 : ℝ) : EReal) := by
    unfold k0_pay16
    pointwise
    exact bits_four
  unfold k0_pay1
  pointwise
  rw [hm, ht, hx, h16, Ideal.absf_def, lg_real]
  simp only [← EReal.coe_mul, ← EReal.coe_sub, ← EReal.coe_add, max_real, min_real]
  rfl

end Cuts

section Third

variable (x : Vec Ideal S2048x8x128 .f32) (s : Fin 8) (l : Fin 128) (c : Col.Column)

/-- The mean of the rows kept, of a column of the block. -/
theorem mean2_at (hx : ∀ r, x (ix3 r s l) = ((c r : ℝ) : EReal)) : X.mean2 x (ix3 0 s l) = ((Col.kmean c : ℝ) : EReal) :=
  kmean_at _ _ s l c (s2_sums x s l c hx).1 (s2_sums x s l c hx).2.2

/-- The standard deviation of the rows kept, of a column of the block. -/
theorem std2_at (hx : ∀ r, x (ix3 r s l) = ((c r : ℝ) : EReal)) : X.std2 x (ix3 0 s l) = ((Col.kstd c : ℝ) : EReal) :=
  kstd_at _ _ _ s l c (s2_sums x s l c hx).1 (s2_sums x s l c hx).2.1 (s2_sums x s l c hx).2.2

/-- An entry of a run of eight rows, clipped. -/
theorem clipped_chunk (hx : ∀ r, x (ix3 r s l) = ((c r : ℝ) : EReal)) (k : ℕ) (i : Fin 8) :
    k0_pay1 (F := Ideal) (X.mean2 x) (X.std2 x) k0_pay16 (X.chunk x k) (ix3 i s l) = ((Col.clip c (row k i) : ℝ) : EReal) :=
  clip_at s l c _ _ _ (mean2_at x s l c hx) (std2_at x s l c hx) _ i (chunk_at x s l c hx k i)

/-- The third loop's accumulators hold the sum and the sum of squares of every eighth clipped row so far. -/
theorem s3_at (hx : ∀ r, x (ix3 r s l) = ((c r : ℝ) : EReal)) (i : Fin 8) (n : ℕ) :
    (X.s3 x n).1 (ix3 i s l) = ((∑ k ∈ Finset.range n, Col.clip c (row k i) : ℝ) : EReal)
      ∧ (X.s3 x n).2 (ix3 i s l) = ((∑ k ∈ Finset.range n, Col.clip c (row k i) * Col.clip c (row k i) : ℝ) : EReal) := by
  induction n with
  | zero => constructor <;> (show k0_pay5 (F := Ideal) (ix3 i s l) = _; unfold k0_pay5; pointwise; rw [Finset.sum_range_zero, EReal.coe_zero])
  | succ n ih =>
    constructor
    · show k0_pay2 _ _ _ _ _ _ = _
      unfold k0_pay2
      pointwise
      rw [ih.1, clipped_chunk x s l c hx, Finset.sum_range_succ, EReal.coe_add]
    · show k0_pay3 _ _ _ _ _ _ = _
      unfold k0_pay3
      pointwise
      rw [ih.2, clipped_chunk x s l c hx, Finset.sum_range_succ, EReal.coe_add, EReal.coe_mul]

/-- The clipped block. -/
theorem x2_at (hx : ∀ r, x (ix3 r s l) = ((c r : ℝ) : EReal)) (r : Fin 2048) : X.x2 x (ix3 r s l) = ((Col.clip c r : ℝ) : EReal) := by
  have h := clipped_chunk x s l c hx (r.val / 8) ⟨r.val % 8, Nat.mod_lt _ (by decide)⟩
  rw [ix3_eq_valueIdx] at h
  have e : row (r.val / 8) ⟨r.val % 8, Nat.mod_lt _ (by decide)⟩ = r := by
    refine Fin.ext ?_
    show (8 * (r.val / 8) + r.val % 8) % 2048 = r.val
    have := r.isLt
    omega
  rw [e] at h
  exact h

/-- What the body leaves: the clipped column, normalized. -/
theorem xout_at (hx : ∀ r, x (ix3 r s l) = ((c r : ℝ) : EReal)) (r : Fin 2048) :
    X.xout x (ix3 r s l) = ((Col.normed (Col.clip c) r : ℝ) : EReal) := by
  have h1 : ∑ i : Fin 8, (X.s3 x 256).1 (ix3 i s l) = ∑ r, ((Col.clip c r : ℝ) : EReal) := by
    rw [Finset.sum_congr rfl fun i _ => (s3_at x s l c hx i 256).1, sum_real, reblock (fun r => Col.clip c r), sum_real]
  have h2 : ∑ i : Fin 8, (X.s3 x 256).2 (ix3 i s l) = ∑ r, ((Col.clip c r : ℝ) : EReal) * ((Col.clip c r : ℝ) : EReal) := by
    rw [Finset.sum_congr rfl fun i _ => (s3_at x s l c hx i 256).2, sum_real, reblock (fun r => Col.clip c r * Col.clip c r)]
    simp only [← EReal.coe_mul, sum_real]
  have h := std_one_pass (Col.clip c)
  rw [EReal.coe_zero] at h
  show k0_pay4 _ _ _ _ = _
  unfold k0_pay4
  pointwise
  rw [h1, h2, x2_at x s l c hx, bits_rows, h, mean_real, bits_eps, ← EReal.coe_sub, ← EReal.coe_add, ← EReal.coe_one,
    div_real _ _ (Col.std_eps_pos (Col.clip c)).ne', ← EReal.coe_mul, mul_one_div]
  rfl

end Third

end Cert.XVal

end
-- ==== Proof.YVal.lean ====
/-
  The values of the second kernel's body, at the ideal numbers: each column of the first output is the column
  normalized, and the second output counts the indexed rows that an entry exceeds.
-/
module

public import proofs.«01_k».proof.Proof.RealOps
public import proofs.«01_k».proof.Proof.YBody
public import Idealize.ShloMosaic.Lib.Pointwise
public import Idealize.ShloMosaic.Lib.IdealHost

@[expose] public section

noncomputable section

namespace Cert.YVal

open Cert.KernelIdeal Cert.KernelIdeal.Gen Cert.RealOps
open Idealize.ShloMosaic
open scoped BigOperators

variable (y : Vec Ideal S2048x128 .f32) (l : Fin 128)

/-- The first output: the normalized column. -/
theorem ynorm_at (c : Col.Column) (hy : ∀ r, y (ix2 r l) = ((c r : ℝ) : EReal)) (r : Fin 2048) :
    k1_pay2 (F := Ideal) y (ix2 r l) = ((Col.normed c r : ℝ) : EReal) := by
  have h := std_one_pass c
  rw [EReal.coe_zero] at h
  unfold k1_pay2
  pointwise
  simp only [hy]
  rw [bits_rows, h, mean_real, bits_eps, normed_real]

/-- A row of `y`, at a lane. -/
theorem yrow_at (w : BitVec 32) : Y.yrow y w (ix2 0 l) = y (ix2 ⟨w.toNat % 2048, Nat.mod_lt _ (by decide)⟩ l) := by
  rw [ix2_eq_valueIdx ⟨w.toNat % 2048, Nat.mod_lt _ (by decide)⟩ l]
  rfl

/-- Nine words added up, in order, are their fold. -/
theorem fold_nine (f : Fin 9 → BitVec 32) : Finset.univ.fold IntOp.addi 0#32 f
    = 0#32 + f 0 + f 1 + f 2 + f 3 + f 4 + f 5 + f 6 + f 7 + f 8 := by
  have h : Finset.univ.fold IntOp.addi 0#32 f = f 0 + (f 1 + (f 2 + (f 3 + (f 4 + (f 5 + (f 6 + (f 7 + (f 8 + 0#32)))))))) := rfl
  rw [h]
  ac_rfl

/-- The second output: how many of the nine indexed rows an entry exceeds. -/
theorem ylab_at (T : Vec Ideal S9 .i32) (r : Fin 2048) :
    Y.ylab y T (ix2 r l) = Finset.univ.fold IntOp.addi 0#32 fun k : Fin 9 =>
      BitVec.setWidth 32 (BitVec.ofBool (decide (y (ix2 ⟨(T (ix1 k)).toNat % 2048, Nat.mod_lt _ (by decide)⟩ l) < y (ix2 r l)))) := by
  rw [fold_nine]
  unfold Y.ylab
  unfold k1_pay1 k1_pay4 k1_pay3
  pointwise
  simp only [yrow_at, ← ix1_eq_valueIdx]
  rfl

end Cert.YVal

end
-- ==== Proof.Arrays.lean ====
/-
  The arrays that the program's two calls leave, on real arguments: every block that a grid point writes back is that
  block of one whole array.
-/
module

public import proofs.«01_k».proof.Proof.Run
public import proofs.«01_k».proof.Proof.XVal
public import proofs.«01_k».proof.Proof.YVal
public import Idealize.ShloMosaic.Lib.Pipeline.Value
public import Idealize.ShloMosaic.Lib.Pipeline.ValueKit.Geometry

@[expose] public section

noncomputable section

namespace Cert.Arrays

open Cert.KernelIdeal Cert.KernelIdeal.Gen Cert.KernelIdeal.Run
open Idealize.ShloMosaic Idealize.ShloMosaic.TcCoe
open Idealize.ShloMosaic.Pipeline (Dat)

variable (W : Vals (F := Ideal)) (c : Dev nD)

/-- The first call's blocks, of both arrays, advance along the middle axis. -/
theorem at0 : ∀ t : Fin cfg0.N, win0_0.index t = ![0, t.val, 0] := by decide +kernel
/-- At step `t` the first call writes the `t`-th block of eight along the second axis. -/
theorem at1 : ∀ t : Fin cfg0.N, win0_1.index t = ![0, t.val, 0] := by decide +kernel

/-- The middle coordinate, in the array, of row `s` of the block of point `t`. -/
def mid (t : Fin cfg0.N) (s : Fin 8) : Fin 128 :=
  ⟨t.val * 8 + s.val, by have h : t.val < 16 := t.isLt; have := s.isLt; omega⟩

/-- Where the input's block stands in its array. -/
theorem emb0 (t : Fin cfg0.N) (r : Fin 2048) (s : Fin 8) (l : Fin 128) :
    ((win0_0.blk t).view.emb (ix3 r s l) : S2048x128x128.Idx) = ix3 r (mid t s) l := by
  funext a
  refine Fin.ext ?_
  match a with
  | ⟨0, _⟩ => blk_simp [at0]
  | ⟨1, _⟩ => blk_simp [at0]; rfl
  | ⟨2, _⟩ => blk_simp [at0]

/-- Where the output's block stands in its array. -/
theorem emb1 (t : Fin cfg0.N) (r : Fin 2048) (s : Fin 8) (l : Fin 128) :
    ((win0_1.blk t).view.emb (ix3 r s l) : S2048x128x128.Idx) = ix3 r (mid t s) l := by
  funext a
  refine Fin.ext ?_
  match a with
  | ⟨0, _⟩ => blk_simp [at1]
  | ⟨1, _⟩ => blk_simp [at1]; rfl
  | ⟨2, _⟩ => blk_simp [at1]

/-- An index of a block, by its coordinates. -/
theorem eta3 (y : S2048x8x128.Idx) : y = ix3 (y 0) (y 1) (y 2) := by
  funext a
  match a with
  | ⟨0, _⟩ => rfl
  | ⟨1, _⟩ => rfl
  | ⟨2, _⟩ => rfl

/-- The first call's result array. -/
theorem out0 (X : Fin 2048 → Fin 128 → Fin 128 → ℝ)
    (hX : ∀ r p l, (W c (Proc.devRef .tc main_arg0) : Vec Ideal S2048x128x128 .f32) (ix3 r p l) = ((X r p l : ℝ) : EReal))
    (G : Vec Ideal S2048x128x128 .f32) (hG : ∀ r p l, G (ix3 r p l) = ((Col.normed (Col.clip fun r => X r p l) r : ℝ) : EReal)) :
    (dat0 W c).arrAt 1 cfg0.N = G := by
  refine (dat0 W c).arrAt_eq_of_covers 1 _ (by decide +kernel) fun t hf y => ?_
  blk_simp
  rw [dat0_after1]
  have hb : ∀ r s l, (iblk0 W c 0 t : Vec Ideal S2048x8x128 .f32) (ix3 r s l) = ((X r (mid t s) l : ℝ) : EReal) := fun r s l => by
    rw [← hX]
    exact congrArg (W c (Proc.devRef .tc main_arg0) : Vec Ideal S2048x128x128 .f32) (emb0 t r s l)
  have key : ∀ (r : Fin 2048) (s : Fin 8) (l : Fin 128), KernelIdeal.X.xout (iblk0 W c 0 t) (ix3 r s l) = G ((win0_1.blk t).view.emb (ix3 r s l)) := fun r s l =>
    (XVal.xout_at _ s l (fun r => X r (mid t s) l) (fun r => hb r s l) r).trans ((hG r (mid t s) l).symm.trans (congrArg G (emb1 t r s l).symm))
  have h : ∀ z : S2048x8x128.Idx, KernelIdeal.X.xout (iblk0 W c 0 t) z = G ((win0_1.blk t).view.emb z) := fun z => by
    rw [eta3 z]
    exact key _ _ _
  exact h y

/-- The second call's blocks stand at the start of their arrays. -/
theorem start1 (w : Fin 3) (t : Fin (cfgM W).N) (a) : ((cfgM W).win w).index t a = 0 := by
  fin_cases w <;> fin_cases a <;> rfl

/-- An output of the second call is written back at its point. -/
theorem flush1 (w : Fin 3) (hw : (spec1 w).isOut = true) (t : Fin (cfgM W).N) : ((cfgM W).win w).flush t = true := by
  have ht : t.val + 1 = (cfgM W).N := by have := t.isLt; have h1 : (cfgM W).N = 1 := rfl; omega
  unfold Pipeline.Window.flush
  fin_cases w <;> simp_all

/-- A block of the second call stands at the start of its array, and is as large as it. -/
theorem emb20 (t : Fin (cfgM W).N) (i : S2048x128.Idx) : ((((cfgM W).win 0).blk t).view.emb i : S2048x128.Idx) = i := by
  funext a
  exact Fin.ext (Pipeline.Window.rect_emb_val_of_index_zero ((cfgM W).win 0) t a (start1 W 0 t a) i)
/-- The second call's first result window is the whole matrix. -/
theorem emb21 (t : Fin (cfgM W).N) (i : S2048x128.Idx) : ((((cfgM W).win 1).blk t).view.emb i : S2048x128.Idx) = i := by
  funext a
  exact Fin.ext (Pipeline.Window.rect_emb_val_of_index_zero ((cfgM W).win 1) t a (start1 W 1 t a) i)
/-- The second call's second result window is the whole matrix. -/
theorem emb22 (t : Fin (cfgM W).N) (i : S2048x128.Idx) : ((((cfgM W).win 2).blk t).view.emb i : S2048x128.Idx) = i := by
  funext a
  exact Fin.ext (Pipeline.Window.rect_emb_val_of_index_zero ((cfgM W).win 2) t a (start1 W 2 t a) i)

/-- The second call's input block is the argument. -/
theorem arg1_block (t : Fin (cfgM W).N) : (iblk1 W c 0 t : Vec Ideal S2048x128 .f32) = (W c (Proc.devRef .tc main_arg1) : Vec Ideal S2048x128 .f32) :=
  funext fun i => congrArg (W c (Proc.devRef .tc main_arg1) : Vec Ideal S2048x128 .f32) (emb20 W t i)

/-- The second call's first result array. -/
theorem out1 : (dat1 W c).arrAt 1 (cfgM W).N = k1_pay2 (F := Ideal) (W c (Proc.devRef .tc main_arg1) : Vec Ideal S2048x128 .f32) := by
  refine (dat1 W c).arrAt_eq_of_emb 1 _ (fun t hf y => ?_) fun i => ⟨⟨0, Nat.one_pos⟩, flush1 W 1 rfl _, ?_⟩
  · blk_simp
    rw [dat1_after1, arg1_block]
    exact congrArg (k1_pay2 (F := Ideal) (W c (Proc.devRef .tc main_arg1) : Vec Ideal S2048x128 .f32)) (emb21 W t y).symm
  · rw [← emb21 W ⟨0, Nat.one_pos⟩ i]
    exact View.emb_mem_set _ _

/-- The second call's second result array. -/
theorem out2 : (dat1 W c).arrAt 2 (cfgM W).N = Y.ylab (F := Ideal) (W c (Proc.devRef .tc main_arg1) : Vec Ideal S2048x128 .f32) (tbl W 0) := by
  refine (dat1 W c).arrAt_eq_of_emb 2 _ (fun t hf y => ?_) fun i => ⟨⟨0, Nat.one_pos⟩, flush1 W 2 rfl _, ?_⟩
  · blk_simp
    rw [dat1_after2, arg1_block]
    exact congrArg (Y.ylab (F := Ideal) (W c (Proc.devRef .tc main_arg1) : Vec Ideal S2048x128 .f32) (tbl W 0)) (emb22 W t y).symm
  · rw [← emb22 W ⟨0, Nat.one_pos⟩ i]
    exact View.emb_mem_set _ _

end Cert.Arrays

end
-- ==== Proof.RVal.lean ====
/-
  The values of the reference, at the ideal numbers, on real arguments: the clipped column normalized, the column of
  the second argument normalized, and the count of the indexed rows that an entry exceeds.
-/
module

public import proofs.«01_k».proof.Proof.RealOps
public import proofs.«01_k».proof.Proof.Gen.ReferenceIdeal.Read
public import Idealize.ShloMosaic.Lib.Pointwise
public import Idealize.ShloMosaic.Lib.IdealHost
public import Idealize.ShloMosaic.Lib.IndicatorCount
public import Idealize.ShloMosaic.Lib.Routing.Ops
public import Idealize.ShloMosaic.Lib.Routing.OpsPair

@[expose] public section

noncomputable section

namespace Cert.RVal

open Cert.ReferenceIdeal Cert.ReferenceIdeal.Gen Cert.ReferenceIdeal.Read Cert.RealOps
open Idealize.ShloMosaic
open scoped BigOperators

/-- A count of rows, at least one, as a real number. -/
theorem count_real (q : Fin 2048 → BitVec 1) (n : ℝ) (hn : n = ((Finset.univ.filter fun k => q k = 1#1).card : ℝ)) :
    FloatOps.sitofp (F := Ideal) FTy.f32 (IntOp.maxsi (Finset.fold IntOp.addi (0#32) (fun k => BitVec.setWidth 32 (q k)) Finset.univ) 1#32)
      = ((max n 1 : ℝ) : EReal) := by
  rw [IndicatorCount.fold_addi_setWidth_eq_card]
  have hle : (Finset.univ.filter fun k => q k = 1#1).card ≤ 2048 := le_trans (Finset.card_le_univ _) (by simp)
  generalize (Finset.univ.filter fun k => q k = 1#1).card = m at hn hle
  subst hn
  show (((IntOp.maxsi (BitVec.ofNat 32 m) 1#32).toInt : ℝ) : EReal) = _
  have ht : (BitVec.ofNat 32 m).toInt = (m : ℤ) := by
    rw [BitVec.toInt_eq_toNat_of_lt (by rw [BitVec.toNat_ofNat]; omega), BitVec.toNat_ofNat]
    omega
  have h1 : (1#32 : BitVec 32).toInt = 1 := rfl
  unfold IntOp.maxsi
  by_cases h : 1 < m
  · have hs : (1#32 : BitVec 32).slt (BitVec.ofNat 32 m) = true := by
      rw [BitVec.slt, ht, h1]
      exact decide_eq_true (by exact_mod_cast h)
    have h' : (1 : ℝ) ≤ (m : ℝ) := by exact_mod_cast h.le
    rw [if_pos hs, ht, max_eq_left h', Int.cast_natCast]
  · have hs : ¬ (1#32 : BitVec 32).slt (BitVec.ofNat 32 m) = true := by
      rw [BitVec.slt, ht, h1]
      simp only [decide_eq_true_eq]
      exact_mod_cast h
    have h' : (m : ℝ) ≤ 1 := by exact_mod_cast not_lt.1 h
    rw [if_neg hs, h1, max_eq_right h', Int.cast_one]

/-- A select whose condition holds. -/
theorem select_one (a b : EReal) : Scalar.select 1#1 a b = a := rfl

section First

variable (x0 : (⟨S2048x128x128, .f32⟩ : BufTy).Contents (Elt Ideal)) (p l : Fin 128) (c : Col.Column)

/-- Every entry is a number. -/
theorem valid_at (i) : val_main_v15 (F := Ideal) x0 i = 1#1 := by
  unfold val_main_v15 val_main_v14
  pointwise
  simp

/-- The count of the valid rows. -/
theorem count_valid (q : Fin 2048 → BitVec 1) (hq : ∀ r, q r = 1#1) :
    FloatOps.sitofp (F := Ideal) FTy.f32 (IntOp.maxsi (Finset.fold IntOp.addi (0#32) (fun k => BitVec.setWidth 32 (q k)) Finset.univ) 1#32)
      = ((2048 : ℝ) : EReal) := by
  rw [count_real q 2048 (by simp [hq]), max_eq_left (by norm_num)]

/-- The first mean. -/
theorem mean_at (hx : ∀ r, x0 (ix3 r p l) = ((c r : ℝ) : EReal)) : val_main_v23 (F := Ideal) x0 (ix2 p l) = ((Col.mean c : ℝ) : EReal) := by
  unfold val_main_v23 val_main_v17 val_main_v16 val_main_cst_2 val_main_v22 val_main_v21 val_main_v19 val_main_v18 val_main_v20 val_main_c_3 val_main_c_4
  pointwise
  rw [count_valid _ fun r => valid_at x0 _]
  simp only [valid_at, hx, Scalar.select, if_true]
  exact mean_real c

/-- The first mean, computed again. -/
theorem mean_at' (hx : ∀ r, x0 (ix3 r p l) = ((c r : ℝ) : EReal)) : val_main_v31 (F := Ideal) x0 (ix2 p l) = ((Col.mean c : ℝ) : EReal) := by
  unfold val_main_v31 val_main_v25 val_main_v24 val_main_cst_6 val_main_v30 val_main_v29 val_main_v27 val_main_v26 val_main_v28 val_main_c_7 val_main_c_8
  pointwise
  rw [count_valid _ fun r => valid_at x0 _]
  simp only [valid_at, hx, Scalar.select, if_true]
  exact mean_real c

/-- The first standard deviation. -/
theorem std_at (hx : ∀ r, x0 (ix3 r p l) = ((c r : ℝ) : EReal)) : val_main_v44 (F := Ideal) x0 (ix2 p l) = ((Col.std c : ℝ) : EReal) := by
  unfold val_main_v44 val_main_v43 val_main_v42 val_main_v41 val_main_v39 val_main_v38 val_main_v35 val_main_v34 val_main_v33 val_main_v32
    val_main_cst_11 val_main_v37 val_main_v36 val_main_c_10 val_main_v40 val_main_c_12
  pointwise
  rw [count_valid _ fun r => valid_at x0 _, mean_at' x0 p l c hx]
  simp only [valid_at, hx, Scalar.select, if_true]
  exact std_two_pass c

open Classical in
/-- A row is kept where it is no outlier. -/
theorem clean_at (hx : ∀ r, x0 (ix3 r p l) = ((c r : ℝ) : EReal)) (r : Fin 2048) :
    val_main_v57 (F := Ideal) x0 (ix3 r p l) = BitVec.ofBool (decide (¬ Col.Out c r)) := by
  unfold val_main_v57 val_main_v56 val_main_v55 val_main_v54 val_main_v53 val_main_v52 val_main_v51 val_main_v50 val_main_v49 val_main_v48
    val_main_v47 val_main_v46 val_main_v45 val_main_cst_13
  pointwise
  rw [valid_at, mean_at x0 p l c hx, std_at x0 p l c hx, hx, bits_four, ← EReal.coe_mul, ← EReal.coe_add, ← EReal.coe_sub]
  simp only [EReal.coe_lt_coe_iff]
  by_cases h1 : Col.mean c + Col.std c * 4 < c r <;> by_cases h2 : c r < Col.mean c - Col.std c * 4 <;>
    simp [Col.Out, h1, h2, IntOp.ori, IntOp.andi]

/-- A select by the mask of the rows kept. -/
theorem select_clean (hx : ∀ r, x0 (ix3 r p l) = ((c r : ℝ) : EReal)) (r : Fin 2048) (a : ℝ) (a' z : EReal) (ha : a' = (a : EReal)) (hz : z = 0) :
    Scalar.select (val_main_v57 (F := Ideal) x0 (ix3 r p l)) a' z = ((Col.keep c (fun _ => a) r : ℝ) : EReal) := by
  classical
  rw [clean_at x0 p l c hx, ha, hz]
  by_cases h : Col.Out c r <;> simp [Col.keep, h, Scalar.select]

/-- The count of the rows kept. -/
theorem count_clean (hx : ∀ r, x0 (ix3 r p l) = ((c r : ℝ) : EReal)) :
    FloatOps.sitofp (F := Ideal) FTy.f32 (IntOp.maxsi (Finset.fold IntOp.addi (0#32)
      (fun k => BitVec.setWidth 32 (val_main_v57 (F := Ideal) x0 (ix3 k p l))) Finset.univ) 1#32) = ((Col.cnt c : ℝ) : EReal) := by
  classical
  refine count_real _ (Col.num c) ?_
  rw [Col.num_card]
  refine congrArg (fun n : ℕ => (n : ℝ)) (congrArg Finset.card (Finset.filter_congr fun r _ => ?_))
  rw [clean_at x0 p l c hx]
  by_cases h : Col.Out c r <;> simp [h]

/-- The zero that stands in the place of an outlier. -/
theorem zero3 (i) : val_main_call3_v1 (F := Ideal) i = 0 := by
  unfold val_main_call3_v1 val_main_call3_v0 val_main_cst_14
  pointwise
  exact bits_zero
/-- The fourth select's other branch is zero. -/
theorem zero4 (i) : val_main_call4_v1 (F := Ideal) i = 0 := by
  unfold val_main_call4_v1 val_main_call4_v0 val_main_cst_18
  pointwise
  exact bits_zero
/-- The fifth select's other branch is zero. -/
theorem zero5 (i) : val_main_call5_v1 (F := Ideal) i = 0 := by
  unfold val_main_call5_v1 val_main_call5_v0 val_main_cst_22
  pointwise
  exact bits_zero

/-- The mean of the rows kept. -/
theorem kmean_at (hx : ∀ r, x0 (ix3 r p l) = ((c r : ℝ) : EReal)) : val_main_v65 (F := Ideal) x0 (ix2 p l) = ((Col.kmean c : ℝ) : EReal) := by
  unfold val_main_v65 val_main_v59 val_main_v58 val_main_cst_15 val_main_v64 val_main_v63 val_main_v61 val_main_v60 val_main_v62 val_main_c_16 val_main_c_17
  pointwise
  rw [count_clean x0 p l c hx, Finset.sum_congr rfl fun r _ => select_clean x0 p l c hx r (c r) _ _ (hx r) (zero3 _), sum_real,
    div_real _ _ (Col.cnt_ne c)]
  rfl

/-- The mean of the rows kept, computed again. -/
theorem kmean_at' (hx : ∀ r, x0 (ix3 r p l) = ((c r : ℝ) : EReal)) : val_main_v73 (F := Ideal) x0 (ix2 p l) = ((Col.kmean c : ℝ) : EReal) := by
  unfold val_main_v73 val_main_v67 val_main_v66 val_main_cst_19 val_main_v72 val_main_v71 val_main_v69 val_main_v68 val_main_v70 val_main_c_20 val_main_c_21
  pointwise
  rw [count_clean x0 p l c hx, Finset.sum_congr rfl fun r _ => select_clean x0 p l c hx r (c r) _ _ (hx r) (zero4 _), sum_real,
    div_real _ _ (Col.cnt_ne c)]
  rfl

/-- The standard deviation of the rows kept. -/
theorem kstd_at (hx : ∀ r, x0 (ix3 r p l) = ((c r : ℝ) : EReal)) : val_main_v86 (F := Ideal) x0 (ix2 p l) = ((Col.kstd c : ℝ) : EReal) := by
  unfold val_main_v86 val_main_v85 val_main_v84 val_main_v83 val_main_v81 val_main_v80 val_main_v77 val_main_v76 val_main_v75 val_main_v74
    val_main_cst_24 val_main_v79 val_main_v78 val_main_c_23 val_main_v82 val_main_c_25
  pointwise
  have hs : ∀ r, Scalar.select (val_main_v57 (F := Ideal) x0 (ix3 r p l)) (x0 (ix3 r p l) - val_main_v73 (F := Ideal) x0 (ix2 p l))
      (val_main_call5_v1 (F := Ideal) (ix3 r p l)) = ((Col.keep c (fun r => c r - Col.kmean c) r : ℝ) : EReal) := fun r =>
    select_clean x0 p l c hx r (c r - Col.kmean c) _ _ (by rw [hx, kmean_at' x0 p l c hx, EReal.coe_sub]) (zero5 _)
  simp only [hs]
  rw [count_clean x0 p l c hx]
  simp only [← EReal.coe_mul, sum_real]
  rw [div_real _ _ (Col.cnt_ne c)]
  exact sqrt_real _ (Col.kvar_nonneg c)

/-- The logarithm of one plus the absolute value. -/
theorem lg_real (a : ℝ) : Ideal.log (1 + max (a : EReal) (-(a : EReal))) = ((Col.lg a : ℝ) : EReal) := by
  rw [abs_real, ← EReal.coe_one, ← EReal.coe_add, log_real _ (by have := abs_nonneg a; linarith)]
  rfl

/-- The lower cut. -/
theorem lower_at (hx : ∀ r, x0 (ix3 r p l) = ((c r : ℝ) : EReal)) : val_main_v89 (F := Ideal) x0 (ix2 p l) = ((Col.lower c : ℝ) : EReal) := by
  unfold val_main_v89 val_main_v88 val_main_v87 val_main_cst_26
  pointwise
  rw [kmean_at x0 p l c hx, kstd_at x0 p l c hx, bits_four, ← EReal.coe_mul, ← EReal.coe_sub]
  rfl

/-- The upper cut. -/
theorem upper_at (hx : ∀ r, x0 (ix3 r p l) = ((c r : ℝ) : EReal)) : val_main_v90 (F := Ideal) x0 (ix2 p l) = ((Col.upper c : ℝ) : EReal) := by
  unfold val_main_v90 val_main_v88 val_main_v87 val_main_cst_26
  pointwise
  rw [kmean_at x0 p l c hx, kstd_at x0 p l c hx, bits_four, ← EReal.coe_mul, ← EReal.coe_add]
  rfl

/-- The soft clipping. -/
theorem clip_at (hx : ∀ r, x0 (ix3 r p l) = ((c r : ℝ) : EReal)) (r : Fin 2048) :
    val_main_v107 (F := Ideal) x0 (ix3 r p l) = ((Col.clip c r : ℝ) : EReal) := by
  unfold val_main_v107 val_main_v106 val_main_v105 val_main_v104 val_main_v103 val_main_v102 val_main_v101 val_main_v100 val_main_v99 val_main_v98
    val_main_v97 val_main_v96 val_main_v95 val_main_v94 val_main_v93 val_main_v92 val_main_v91 val_main_cst_28 val_main_cst_27
  pointwise
  rw [lower_at x0 p l c hx, upper_at x0 p l c hx, hx, Ideal.absf_def, Ideal.absf_def, lg_real, ← EReal.coe_neg, ← EReal.coe_add, max_real, lg_real,
    ← EReal.coe_add, min_real, Col.clip_two_steps]

/-- The rows less zero are the rows. -/
theorem rows_sub : Ideal.ofBits FTy.f32 1157627904#32 - FloatOps.sitofp (F := Ideal) FTy.f32 0#32 = ((2048 : ℝ) : EReal) := by
  rw [bits_rows]
  show ((2048 : ℝ) : EReal) - (((0#32 : BitVec 32).toInt : ℝ) : EReal) = _
  rw [← EReal.coe_sub]
  simp

/-- There are rows. -/
theorem rows_pos : BitVec.ofBool (decide (0 < Ideal.ofBits FTy.f32 1157627904#32 - FloatOps.sitofp (F := Ideal) FTy.f32 0#32)) = 1#1 := by
  rw [rows_sub]
  have h : (0 : EReal) < ((2048 : ℝ) : EReal) := by exact_mod_cast (by norm_num : (0 : ℝ) < 2048)
  simp [h]

/-- The first result: the clipped column, normalized. -/
theorem xout_at (hx : ∀ r, x0 (ix3 r p l) = ((c r : ℝ) : EReal)) (r : Fin 2048) :
    val_main_v118 (F := Ideal) x0 (ix3 r p l) = ((Col.normed (Col.clip c) r : ℝ) : EReal) := by
  have hb : val_main_call6_call0_v13 (F := Ideal) ix0 = 1#1 := by
    unfold val_main_call6_call0_v13 val_main_call6_call0_v8 val_main_call6_call0_v7 val_main_call6_call0_cst_1 val_main_call6_call0_cst_3 val_main_c_31
    pointwise
    exact rows_pos
  have hv : Ideal.sqrt (val_main_call6_call0_v12 (F := Ideal) x0 (ix3 0 p l)) = ((Col.std (Col.clip c) : ℝ) : EReal) := by
    unfold val_main_call6_call0_v12 val_main_call6_call0_v11 val_main_call6_call0_v10 val_main_call6_call0_v9 val_main_call6_call0_v8
      val_main_call6_call0_v7 val_main_call6_call0_v6 val_main_call6_call0_v5 val_main_call6_call0_v4 val_main_call6_call0_v3 val_main_call6_call0_v2
      val_main_call6_call0_v1 val_main_call6_call0_v0 val_main_call6_call0_cst_2 val_main_call6_call0_cst_1 val_main_call6_call0_cst_0
      val_main_call6_call0_cst val_main_c_31
    pointwise
    rw [rows_sub, bits_rows]
    simp only [clip_at x0 p l c hx, mean_real (Col.clip c)]
    exact std_two_pass (Col.clip c)
  unfold val_main_v118 val_main_v117 val_main_v116 val_main_v115 val_main_v114 val_main_v113 val_main_v112 val_main_v111 val_main_v110 val_main_v109
    val_main_v108 val_main_cst_32 val_main_cst_30 val_main_cst_29 val_main_call6_v0
  pointwise
  rw [hb, select_one, hv]
  simp only [clip_at x0 p l c hx]
  rw [bits_rows, mean_real (Col.clip c), bits_eps, normed_real]

end First

section Second

variable (x1 : (⟨S2048x128, .f32⟩ : BufTy).Contents (Elt Ideal)) (l : Fin 128)

/-- The second result: the normalized column. -/
theorem ynorm_at (c : Col.Column) (hy : ∀ r, x1 (ix2 r l) = ((c r : ℝ) : EReal)) (r : Fin 2048) :
    val_main_v129 (F := Ideal) x1 (ix2 r l) = ((Col.normed c r : ℝ) : EReal) := by
  have hb : val_main_call7_call0_v13 (F := Ideal) ix0 = 1#1 := by
    unfold val_main_call7_call0_v13 val_main_call7_call0_v8 val_main_call7_call0_v7 val_main_call7_call0_cst_1 val_main_call7_call0_cst_3 val_main_c_35
    pointwise
    exact rows_pos
  have hv : Ideal.sqrt (val_main_call7_call0_v12 (F := Ideal) x1 (ix2 0 l)) = ((Col.std c : ℝ) : EReal) := by
    unfold val_main_call7_call0_v12 val_main_call7_call0_v11 val_main_call7_call0_v10 val_main_call7_call0_v9 val_main_call7_call0_v8
      val_main_call7_call0_v7 val_main_call7_call0_v6 val_main_call7_call0_v5 val_main_call7_call0_v4 val_main_call7_call0_v3 val_main_call7_call0_v2
      val_main_call7_call0_v1 val_main_call7_call0_v0 val_main_call7_call0_cst_2 val_main_call7_call0_cst_1 val_main_call7_call0_cst_0
      val_main_call7_call0_cst val_main_c_35
    pointwise
    rw [rows_sub, bits_rows]
    simp only [hy, mean_real c]
    exact std_two_pass c
  unfold val_main_v129 val_main_v128 val_main_v127 val_main_v126 val_main_v125 val_main_v124 val_main_v123 val_main_v122 val_main_v121 val_main_v120
    val_main_v119 val_main_cst_36 val_main_cst_34 val_main_cst_33 val_main_call7_v0
  pointwise
  rw [hb, select_one, hv]
  simp only [hy]
  rw [bits_rows, mean_real c, bits_eps, normed_real]

variable (x2 : (⟨S9, .i32⟩ : BufTy).Contents (Elt Ideal))

/-- The start index of a gathered row is the table's word, which is not negative. -/
theorem start_at (k : Fin 9) (h : (x2 (ix1 k)).toNat < 2048) : val_main_v5 (F := Ideal) x2 (ix2 k 0) = x2 (ix1 k) := by
  unfold val_main_v5 val_main_v4 val_main_v3 val_main_v2 val_main_v1 val_main_v0 val_main_c
  pointwise
  exact Routing.wrap_of_lt _ _ (by show _ < 2 ^ 31; omega)

/-- A gathered row. -/
theorem gather_at (k : Fin 9) (h : (x2 (ix1 k)).toNat < 2048) :
    val_main_v6 (F := Ideal) x1 x2 (ix2 k l) = x1 (ix2 ⟨(x2 (ix1 k)).toNat % 2048, Nat.mod_lt _ (by decide)⟩ l) := by
  unfold val_main_v6
  rw [ix2_eq_valueIdx, ix2_eq_valueIdx]
  refine Routing.gather_row gather_S2048x128_S9x1_S9x128_1_0_n_n_0_1_1128 rfl rfl rfl rfl rfl x1 (val_main_v5 (F := Ideal) x2) k l _ ?_ (by decide)
  rw [← ix2_eq_valueIdx, start_at x2 k h]
  refine BitVec.eq_of_toNat_eq ?_
  rw [BitVec.toNat_ofNat]
  show _ = (x2 (ix1 k)).toNat % 2048 % 2 ^ 32
  omega

/-- The third result: how many of the nine indexed rows an entry exceeds. -/
theorem label_at (h : ∀ k : Fin 9, (x2 (ix1 k)).toNat < 2048) (r : Fin 2048) :
    val_main_v13 (F := Ideal) x1 x2 (ix2 r l) = Finset.univ.fold IntOp.addi 0#32 fun k : Fin 9 =>
      BitVec.setWidth 32 (BitVec.ofBool (decide (x1 (ix2 ⟨(x2 (ix1 k)).toNat % 2048, Nat.mod_lt _ (by decide)⟩ l) < x1 (ix2 r l)))) := by
  have hk : ∀ k : Fin 9, val_main_v11 (F := Ideal) x1 x2 (ix3 k r l)
      = BitVec.ofBool (decide (x1 (ix2 ⟨(x2 (ix1 k)).toNat % 2048, Nat.mod_lt _ (by decide)⟩ l) < x1 (ix2 r l))) := fun k => by
    rw [← gather_at x1 l x2 k (h k)]
    unfold val_main_v11 val_main_v10 val_main_v9 val_main_v8 val_main_v7
    pointwise
  unfold val_main_v13 val_main_v12 val_main_c_1
  pointwise
  simp only [hk]

end Second

end Cert.RVal

end
-- ==== Proof.Tie.lean ====
/-
  The value claim: on a real first and second argument and a table of row numbers, the kernel's three result arrays are
  the reference's.
-/
module

public import proofs.«01_k».proof.Defs
public import proofs.«01_k».proof.Proof.Frames
public import proofs.«01_k».proof.Proof.Arrays
public import proofs.«01_k».proof.Proof.RVal

@[expose] public section

set_option maxRecDepth 16384
noncomputable section

namespace Cert.Tie

open Idealize.ShloMosaic Idealize.ShloMosaic.TcCoe Idealize.SL.Sem
open Cert.KernelIdeal.Run (dat0 dat1 W0 W1 cfgM tbl TblOk)

/-- An index of a matrix, by its coordinates. -/
theorem eta2 (i : (⟨2, ![2048, 128]⟩ : Shape).Idx) : i = ix2 (i 0) (i 1) := by
  funext a
  match a with
  | ⟨0, _⟩ => rfl
  | ⟨1, _⟩ => rfl

section Kernel

variable (m : (ℓ : Loc Cert.KernelIdeal.nD Cert.KernelIdeal.τ Cert.KernelIdeal.sig) → Buf (Elt Ideal) ℓ) (c : Dev Cert.KernelIdeal.nD)

/-- The kernel's arguments as launched. -/
abbrev a0 : Vec Ideal ⟨3, ![2048, 128, 128]⟩ .f32 := m ((c.tc : Thread Cert.KernelIdeal.nD Cert.KernelIdeal.τ).loc Cert.KernelIdeal.main_arg0)
abbrev a1 : Vec Ideal ⟨2, ![2048, 128]⟩ .f32 := m ((c.tc : Thread Cert.KernelIdeal.nD Cert.KernelIdeal.τ).loc Cert.KernelIdeal.main_arg1)
abbrev a2 : Vec Ideal ⟨1, ![9]⟩ .i32 := m ((c.tc : Thread Cert.KernelIdeal.nD Cert.KernelIdeal.τ).loc Cert.KernelIdeal.main_arg2)

/-- The first result. -/
theorem first (h : ∀ i, ∃ r : ℝ, a0 m c i = (r : EReal)) :
    (dat0 (W0 m) c).arrAt 1 Cert.KernelIdeal.cfg0.N = Cert.ReferenceIdeal.Read.val_main_v118 (F := Ideal) (a0 m c) := by
  choose X hX using h
  exact Arrays.out0 (W0 m) c (fun r p l => X (ix3 r p l)) (fun r p l => hX _) _
    fun r p l => RVal.xout_at _ p l (fun r => X (ix3 r p l)) (fun r => hX _) r

/-- The second argument stands at the second call as launched. -/
theorem second_arg : (W1 m c (Proc.devRef .tc Cert.KernelIdeal.main_arg1) : Vec Ideal ⟨2, ![2048, 128]⟩ .f32) = a1 m c :=
  Cert.KernelIdeal.Run.W1_keeps m c Cert.KernelIdeal.main_arg1 (by decide)

/-- The second result. -/
theorem second (h : ∀ i, ∃ r : ℝ, a1 m c i = (r : EReal)) :
    (dat1 (W1 m) c).arrAt 1 (cfgM (W1 m)).N = Cert.ReferenceIdeal.Read.val_main_v129 (F := Ideal) (a1 m c) := by
  choose Y hY using h
  rw [Arrays.out1]
  refine funext fun i => ?_
  have e : ∀ r l, Cert.KernelIdeal.Gen.k1_pay2 (F := Ideal) (W1 m c (Proc.devRef .tc Cert.KernelIdeal.main_arg1)) (ix2 r l)
      = Cert.ReferenceIdeal.Read.val_main_v129 (F := Ideal) (a1 m c) (ix2 r l) := fun r l => by
    rw [second_arg]
    exact (YVal.ynorm_at _ l (fun r => Y (ix2 r l)) (fun r => hY _) r).trans (RVal.ynorm_at _ l (fun r => Y (ix2 r l)) (fun r => hY _) r).symm
  have e' : ∀ j : (⟨2, ![2048, 128]⟩ : Shape).Idx, Cert.KernelIdeal.Gen.k1_pay2 (F := Ideal) (W1 m c (Proc.devRef .tc Cert.KernelIdeal.main_arg1)) j
      = Cert.ReferenceIdeal.Read.val_main_v129 (F := Ideal) (a1 m c) j := fun j => by
    rw [eta2 j]
    exact e _ _
  exact e' i

/-- The third result. -/
theorem third (h : ∀ k : Fin 9, (a2 m c (ix1 k)).toNat < 2048) :
    (dat1 (W1 m) c).arrAt 2 (cfgM (W1 m)).N = Cert.ReferenceIdeal.Read.val_main_v13 (F := Ideal) (a1 m c) (a2 m c) := by
  obtain rfl : c = 0 := Subsingleton.elim _ _
  rw [Arrays.out2, Cert.KernelIdeal.Run.tbl_launch]
  refine funext fun i => ?_
  have e : ∀ j : (⟨2, ![2048, 128]⟩ : Shape).Idx, Cert.KernelIdeal.Y.ylab (F := Ideal) (W1 m 0 (Proc.devRef .tc Cert.KernelIdeal.main_arg1)) (a2 m 0) j
      = Cert.ReferenceIdeal.Read.val_main_v13 (F := Ideal) (a1 m 0) (a2 m 0) j := fun j => by
    rw [second_arg, eta2 j]
    exact (YVal.ylab_at _ _ _ _).trans (RVal.label_at _ _ _ h _).symm
  exact e i

end Kernel

/-- The reference's run: each result at its value of the arguments, each argument as launched. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v118)
          = Cert.ReferenceIdeal.Read.val_main_v118 (F := Ideal) (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v129)
          = Cert.ReferenceIdeal.Read.val_main_v129 (F := Ideal) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v13)
          = Cert.ReferenceIdeal.Read.val_main_v13 (F := Ideal) (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ hr c =>
    ⟨(hr c).1.trans (Cert.ReferenceIdeal.Read.val_main_v118_eq (StableHlo.launchContents m' c)),
      (hr c).2.1.trans (Cert.ReferenceIdeal.Read.val_main_v129_eq (StableHlo.launchContents m' c)),
      (hr c).2.2.1.trans (Cert.ReferenceIdeal.Read.val_main_v13_eq (StableHlo.launchContents m' c)), (hr c).2.2.2⟩)
    (Cert.ReferenceIdeal.Value.run m' g')

/-- The value claim, of all three results. -/
theorem algebraic : Cert.algebraic_KernelIdeal_ReferenceIdeal_pre_finite := by
  intro m g m' g' hpre hargs
  have hx : ∀ c : Dev Cert.KernelIdeal.nD, ∀ i, ∃ r : ℝ, a0 m c i = (r : EReal) := fun c i => Cert.Pre.finite_x _ _ _ _ (hpre c) i
  have hy : ∀ c : Dev Cert.KernelIdeal.nD, ∀ i, ∃ r : ℝ, a1 m c i = (r : EReal) := fun c i => Cert.Pre.finite_y _ _ _ _ (hpre c) i
  have hT : ∀ c : Dev Cert.KernelIdeal.nD, ∀ k : Fin 9, (a2 m c (ix1 k)).toNat < 2048 := fun c k => by
    rw [ix1_eq_valueIdx]
    exact Cert.Pre.finite_range _ _ _ _ (hpre c) k
  refine ⟨fun c => Cert.ReferenceIdeal.Read.val_main_v118 (F := Ideal) (a0 m c), fun c => Cert.ReferenceIdeal.Read.val_main_v129 (F := Ideal) (a1 m c),
    fun c => Cert.ReferenceIdeal.Read.val_main_v13 (F := Ideal) (a1 m c) (a2 m c), ?_, ?_⟩
  · refine (θ_run Cert.KernelIdeal.defs _ _).mono (fun r hr c => ?_) (Cert.KernelIdeal.Run.run_post m g (Cert.Frames.tblOk_finite m hpre))
    obtain ⟨h0, h1, h2, h3⟩ := hr.1 c
    exact ⟨h0.trans (first m c (hx c)), h1.trans (second m c (hy c)), h2.trans (third m c (hT c)), h3⟩
  · refine (θ_run Cert.ReferenceIdeal.defs _ _).mono (fun r hr c => ?_) (ref_run m' g')
    obtain ⟨h0, h1, h2, h3⟩ := hr c
    obtain ⟨q0, q1, q2, -⟩ := hargs c
    refine ⟨h0.trans ?_, h1.trans ?_, h2.trans ?_, h3⟩
    · exact congrArg (Cert.ReferenceIdeal.Read.val_main_v118 (F := Ideal)) q0
    · exact congrArg (Cert.ReferenceIdeal.Read.val_main_v129 (F := Ideal)) q1
    · exact congrArg₂ (Cert.ReferenceIdeal.Read.val_main_v13 (F := Ideal)) q1 q2

end Cert.Tie

end
-- ==== Proof.lean ====
/-
  The certificate's proof: the frames of the kernel as printed, of the idealized kernel and of the reference, and the
  equation between the results of the last two.
-/
module

public import proofs.«01_k».proof.Defs
public import proofs.«01_k».proof.Proof.Frames
public import proofs.«01_k».proof.Proof.Tie
public import proofs.«01_k».proof.Proof.Gen.ReferenceIdeal.Read

@[expose] public section

noncomputable section

namespace Cert.Proof

open Idealize.ShloMosaic Idealize.SL.Sem

/-- The claims of this certificate, proved. -/
theorem claim : Cert.Claim :=
  ⟨Cert.Kernel.Gen.facts, Cert.KernelIdeal.Gen.facts, Cert.ReferenceIdeal.Gen.facts, Cert.Pre_in_range.Gen.facts, Cert.Pre_finite.Gen.facts,
    Cert.Frames.frame_p, Cert.Frames.frame_pi, Cert.Frames.frame_pi_finite, Cert.Frames.frame_ri, Cert.Frames.frame_ri_finite, trivial, Cert.Tie.algebraic⟩

end Cert.Proof

end
